-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "loss_scale" .f32 0x34E38E39#32 ((1 / 2359296 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x576x64 : Shape := ⟨3, ![16, 576, 64]⟩
abbrev S1024x64 : Shape := ⟨2, ![1024, 64]⟩
abbrev S9216x64 : Shape := ⟨2, ![9216, 64]⟩
abbrev S4096x64 : Shape := ⟨2, ![4096, 64]⟩
abbrev S4x9216 : Shape := ⟨2, ![4, 9216]⟩
abbrev S1x1 : Shape := ⟨2, ![1, 1]⟩
abbrev S4x1024 : Shape := ⟨2, ![4, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1x1024x64 : Shape := ⟨3, ![1, 1024, 64]⟩
abbrev S1 : Shape := ⟨1, ![1]⟩
abbrev S1x1x1 : Shape := ⟨3, ![1, 1, 1]⟩
abbrev S_ : Shape := ⟨0, ![]⟩
abbrev S4x16x576 : Shape := ⟨3, ![4, 16, 576]⟩

abbrev nBuf : Space → Nat
  | .hbm => 13
  | .vmem => 9
  | .smem => 0
  | _ => 0

abbrev bufTy : (tb : Table) → Fin (tcTables nBuf tb) → BufTy
  | .hbm, ⟨0, _⟩ => ⟨S16x576x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S9216x64, .f32⟩
  | .hbm, ⟨6, _⟩ => ⟨S4096x64, .f32⟩
  | .hbm, ⟨7, _⟩ => ⟨S9216x64, .f32⟩
  | .hbm, ⟨8, _⟩ => ⟨S4x9216, .i32⟩
  | .hbm, ⟨9, _⟩ => ⟨S1x1, .f32⟩
  | .hbm, ⟨10, _⟩ => ⟨S16x576x64, .f32⟩
  | .hbm, ⟨11, _⟩ => ⟨S_, .f32⟩
  | .hbm, ⟨12, _⟩ => ⟨S4x16x576, .i32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S1024x64, .f32⟩
  | .local _ .vmem, ⟨4, _⟩ => ⟨S1024x64, .f32⟩
  | .local _ .vmem, ⟨5, _⟩ => ⟨S4x1024, .i32⟩
  | .local _ .vmem, ⟨6, _⟩ => ⟨S4x1024, .i32⟩
  | .local _ .vmem, ⟨7, _⟩ => ⟨S1x1, .f32⟩
  | .local _ .vmem, ⟨8, _⟩ => ⟨S4x1024, .f32⟩
  | _, _ => ⟨S16x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "loss_scale" => some ((1 / 2359296 : ℝ) : EReal)
  | _ => none
-- ==== ReferenceIdeal.lean ====
abbrev S16x576x64 : Shape := ⟨3, ![16, 576, 64]⟩
abbrev S1024x64 : Shape := ⟨2, ![1024, 64]⟩
abbrev S_ : Shape := ⟨0, ![]⟩
abbrev S9216x64 : Shape := ⟨2, ![9216, 64]⟩
abbrev S9216 : Shape := ⟨1, ![9216]⟩
abbrev S9216x1 : Shape := ⟨2, ![9216, 1]⟩
abbrev S1024 : Shape := ⟨1, ![1024]⟩
abbrev S1x1024 : Shape := ⟨2, ![1, 1024]⟩
abbrev S9216x1024 : Shape := ⟨2, ![9216, 1024]⟩
abbrev S64x1024 : Shape := ⟨2, ![64, 1024]⟩
abbrev S1 : Shape := ⟨1, ![1]⟩
abbrev S1x1 : Shape := ⟨2, ![1, 1]⟩
abbrev S16x576 : Shape := ⟨2, ![16, 576]⟩
abbrev S1x16x576 : Shape := ⟨3, ![1, 16, 576]⟩
abbrev S4x16x576 : Shape := ⟨3, ![4, 16, 576]⟩

abbrev nBuf : Space → Nat
  | .hbm => 276
  | .vmem => 0
  | .smem => 0
  | _ => 0

abbrev hbmTy0_0 (i : Nat) : BufTy := match i % 128 with
  | 0 => ⟨S16x576x64, .f32⟩
  | 1 => ⟨S1024x64, .f32⟩
  | 2 => ⟨S1024x64, .f32⟩
  | 3 => ⟨S1024x64, .f32⟩
  | 4 => ⟨S1024x64, .f32⟩
  | 5 => ⟨S_, .f32⟩
  | 6 => ⟨S16x576x64, .f32⟩
  | 7 => ⟨S9216x64, .f32⟩
  | 8 => ⟨S9216x64, .f32⟩
  | 9 => ⟨S_, .f32⟩
  | 10 => ⟨S9216, .f32⟩
  | 11 => ⟨S9216x1, .f32⟩
  | 12 => ⟨S1024x64, .f32⟩
  | 13 => ⟨S_, .f32⟩
  | 14 => ⟨S1024, .f32⟩
  | 15 => ⟨S1x1024, .f32⟩
  | 16 => ⟨S9216x1024, .f32⟩
  | 17 => ⟨S9216x1024, .f32⟩
  | 18 => ⟨S9216x1024, .f32⟩
  | 19 => ⟨S64x1024, .f32⟩
  | 20 => ⟨S9216x1024, .f32⟩
  | 21 => ⟨S_, .f32⟩
  | 22 => ⟨S9216x1024, .f32⟩
  | 23 => ⟨S9216x1024, .f32⟩
  | 24 => ⟨S9216x1024, .f32⟩
  | 25 => ⟨S9216x1024, .i32⟩
  | 26 => ⟨S_, .f32⟩
  | 27 => ⟨S_, .i32⟩
  | 28 => ⟨S9216, .f32⟩
  | 29 => ⟨S9216, .i32⟩
  | 30 => ⟨S_, .i32⟩
  | 31 => ⟨S9216, .i32⟩
  | 32 => ⟨S9216, .i1⟩
  | 33 => ⟨S_, .i32⟩
  | 34 => ⟨S9216, .i32⟩
  | 35 => ⟨S9216, .i32⟩
  | 36 => ⟨S9216, .i32⟩
  | 37 => ⟨S9216x1, .i32⟩
  | 38 => ⟨S1, .i32⟩
  | 39 => ⟨S_, .i32⟩
  | 40 => ⟨S9216x1, .i32⟩
  | 41 => ⟨S9216x1, .i1⟩
  | 42 => ⟨S1x1, .i32⟩
  | 43 => ⟨S9216x1, .i32⟩
  | 44 => ⟨S9216x1, .i1⟩
  | 45 => ⟨S9216x1, .i1⟩
  | 46 => ⟨S_, .i1⟩
  | 47 => ⟨S9216, .i1⟩
  | 48 => ⟨S9216x64, .f32⟩
  | 49 => ⟨S9216x64, .i1⟩
  | 50 => ⟨S_, .f32⟩
  | 51 => ⟨S9216x64, .f32⟩
  | 52 => ⟨S9216x64, .f32⟩
  | 53 => ⟨S16x576x64, .f32⟩
  | 54 => ⟨S16x576x64, .f32⟩
  | 55 => ⟨S16x576x64, .f32⟩
  | 56 => ⟨S_, .f32⟩
  | 57 => ⟨S_, .f32⟩
  | 58 => ⟨S_, .f32⟩
  | 59 => ⟨S_, .f32⟩
  | 60 => ⟨S16x576x64, .f32⟩
  | 61 => ⟨S16x576x64, .f32⟩
  | 62 => ⟨S_, .f32⟩
  | 63 => ⟨S_, .f32⟩
  | 64 => ⟨S_, .f32⟩
  | 65 => ⟨S_, .f32⟩
  | 66 => ⟨S16x576, .i32⟩
  | 67 => ⟨S16x576x64, .f32⟩
  | 68 => ⟨S_, .f32⟩
  | 69 => ⟨S_, .f32⟩
  | 70 => ⟨S_, .f32⟩
  | 71 => ⟨S_, .f32⟩
  | 72 => ⟨S16x576x64, .f32⟩
  | 73 => ⟨S9216x64, .f32⟩
  | 74 => ⟨S9216x64, .f32⟩
  | 75 => ⟨S_, .f32⟩
  | 76 => ⟨S9216, .f32⟩
  | 77 => ⟨S9216x1, .f32⟩
  | 78 => ⟨S1024x64, .f32⟩
  | 79 => ⟨S_, .f32⟩
  | 80 => ⟨S1024, .f32⟩
  | 81 => ⟨S1x1024, .f32⟩
  | 82 => ⟨S9216x1024, .f32⟩
  | 83 => ⟨S9216x1024, .f32⟩
  | 84 => ⟨S9216x1024, .f32⟩
  | 85 => ⟨S64x1024, .f32⟩
  | 86 => ⟨S9216x1024, .f32⟩
  | 87 => ⟨S_, .f32⟩
  | 88 => ⟨S9216x1024, .f32⟩
  | 89 => ⟨S9216x1024, .f32⟩
  | 90 => ⟨S9216x1024, .f32⟩
  | 91 => ⟨S9216x1024, .i32⟩
  | 92 => ⟨S_, .f32⟩
  | 93 => ⟨S_, .i32⟩
  | 94 => ⟨S9216, .f32⟩
  | 95 => ⟨S9216, .i32⟩
  | 96 => ⟨S_, .i32⟩
  | 97 => ⟨S9216, .i32⟩
  | 98 => ⟨S9216, .i1⟩
  | 99 => ⟨S_, .i32⟩
  | 100 => ⟨S9216, .i32⟩
  | 101 => ⟨S9216, .i32⟩
  | 102 => ⟨S9216, .i32⟩
  | 103 => ⟨S9216x1, .i32⟩
  | 104 => ⟨S1, .i32⟩
  | 105 => ⟨S_, .i32⟩
  | 106 => ⟨S9216x1, .i32⟩
  | 107 => ⟨S9216x1, .i1⟩
  | 108 => ⟨S1x1, .i32⟩
  | 109 => ⟨S9216x1, .i32⟩
  | 110 => ⟨S9216x1, .i1⟩
  | 111 => ⟨S9216x1, .i1⟩
  | 112 => ⟨S_, .i1⟩
  | 113 => ⟨S9216, .i1⟩
  | 114 => ⟨S9216x64, .f32⟩
  | 115 => ⟨S9216x64, .i1⟩
  | 116 => ⟨S_, .f32⟩
  | 117 => ⟨S9216x64, .f32⟩
  | 118 => ⟨S9216x64, .f32⟩
  | 119 => ⟨S16x576x64, .f32⟩
  | 120 => ⟨S16x576x64, .f32⟩
  | 121 => ⟨S16x576x64, .f32⟩
  | 122 => ⟨S_, .f32⟩
  | 123 => ⟨S_, .f32⟩
  | 124 => ⟨S_, .f32⟩
  | 125 => ⟨S_, .f32⟩
  | 126 => ⟨S16x576x64, .f32⟩
  | 127 => ⟨S16x576x64, .f32⟩
  | _ => ⟨S16x576x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S16x576, .i32⟩
  | 5 => ⟨S16x576x64, .f32⟩
  | 6 => ⟨S_, .f32⟩
  | 7 => ⟨S_, .f32⟩
  | 8 => ⟨S16x576x64, .f32⟩
  | 9 => ⟨S9216x64, .f32⟩
  | 10 => ⟨S9216x64, .f32⟩
  | 11 => ⟨S_, .f32⟩
  | 12 => ⟨S9216, .f32⟩
  | 13 => ⟨S9216x1, .f32⟩
  | 14 => ⟨S1024x64, .f32⟩
  | 15 => ⟨S_, .f32⟩
  | 16 => ⟨S1024, .f32⟩
  | 17 => ⟨S1x1024, .f32⟩
  | 18 => ⟨S9216x1024, .f32⟩
  | 19 => ⟨S9216x1024, .f32⟩
  | 20 => ⟨S9216x1024, .f32⟩
  | 21 => ⟨S64x1024, .f32⟩
  | 22 => ⟨S9216x1024, .f32⟩
  | 23 => ⟨S_, .f32⟩
  | 24 => ⟨S9216x1024, .f32⟩
  | 25 => ⟨S9216x1024, .f32⟩
  | 26 => ⟨S9216x1024, .f32⟩
  | 27 => ⟨S9216x1024, .i32⟩
  | 28 => ⟨S_, .f32⟩
  | 29 => ⟨S_, .i32⟩
  | 30 => ⟨S9216, .f32⟩
  | 31 => ⟨S9216, .i32⟩
  | 32 => ⟨S_, .i32⟩
  | 33 => ⟨S9216, .i32⟩
  | 34 => ⟨S9216, .i1⟩
  | 35 => ⟨S_, .i32⟩
  | 36 => ⟨S9216, .i32⟩
  | 37 => ⟨S9216, .i32⟩
  | 38 => ⟨S9216, .i32⟩
  | 39 => ⟨S9216x1, .i32⟩
  | 40 => ⟨S1, .i32⟩
  | 41 => ⟨S_, .i32⟩
  | 42 => ⟨S9216x1, .i32⟩
  | 43 => ⟨S9216x1, .i1⟩
  | 44 => ⟨S1x1, .i32⟩
  | 45 => ⟨S9216x1, .i32⟩
  | 46 => ⟨S9216x1, .i1⟩
  | 47 => ⟨S9216x1, .i1⟩
  | 48 => ⟨S_, .i1⟩
  | 49 => ⟨S9216, .i1⟩
  | 50 => ⟨S9216x64, .f32⟩
  | 51 => ⟨S9216x64, .i1⟩
  | 52 => ⟨S_, .f32⟩
  | 53 => ⟨S9216x64, .f32⟩
  | 54 => ⟨S9216x64, .f32⟩
  | 55 => ⟨S16x576x64, .f32⟩
  | 56 => ⟨S16x576x64, .f32⟩
  | 57 => ⟨S16x576x64, .f32⟩
  | 58 => ⟨S_, .f32⟩
  | 59 => ⟨S_, .f32⟩
  | 60 => ⟨S_, .f32⟩
  | 61 => ⟨S_, .f32⟩
  | 62 => ⟨S16x576x64, .f32⟩
  | 63 => ⟨S16x576x64, .f32⟩
  | 64 => ⟨S_, .f32⟩
  | 65 => ⟨S_, .f32⟩
  | 66 => ⟨S_, .f32⟩
  | 67 => ⟨S_, .f32⟩
  | 68 => ⟨S16x576, .i32⟩
  | 69 => ⟨S16x576x64, .f32⟩
  | 70 => ⟨S_, .f32⟩
  | 71 => ⟨S_, .f32⟩
  | 72 => ⟨S16x576x64, .f32⟩
  | 73 => ⟨S9216x64, .f32⟩
  | 74 => ⟨S9216x64, .f32⟩
  | 75 => ⟨S_, .f32⟩
  | 76 => ⟨S9216, .f32⟩
  | 77 => ⟨S9216x1, .f32⟩
  | 78 => ⟨S1024x64, .f32⟩
  | 79 => ⟨S_, .f32⟩
  | 80 => ⟨S1024, .f32⟩
  | 81 => ⟨S1x1024, .f32⟩
  | 82 => ⟨S9216x1024, .f32⟩
  | 83 => ⟨S9216x1024, .f32⟩
  | 84 => ⟨S9216x1024, .f32⟩
  | 85 => ⟨S64x1024, .f32⟩
  | 86 => ⟨S9216x1024, .f32⟩
  | 87 => ⟨S_, .f32⟩
  | 88 => ⟨S9216x1024, .f32⟩
  | 89 => ⟨S9216x1024, .f32⟩
  | 90 => ⟨S9216x1024, .f32⟩
  | 91 => ⟨S9216x1024, .i32⟩
  | 92 => ⟨S_, .f32⟩
  | 93 => ⟨S_, .i32⟩
  | 94 => ⟨S9216, .f32⟩
  | 95 => ⟨S9216, .i32⟩
  | 96 => ⟨S_, .i32⟩
  | 97 => ⟨S9216, .i32⟩
  | 98 => ⟨S9216, .i1⟩
  | 99 => ⟨S_, .i32⟩
  | 100 => ⟨S9216, .i32⟩
  | 101 => ⟨S9216, .i32⟩
  | 102 => ⟨S9216, .i32⟩
  | 103 => ⟨S9216x1, .i32⟩
  | 104 => ⟨S1, .i32⟩
  | 105 => ⟨S_, .i32⟩
  | 106 => ⟨S9216x1, .i32⟩
  | 107 => ⟨S9216x1, .i1⟩
  | 108 => ⟨S1x1, .i32⟩
  | 109 => ⟨S9216x1, .i32⟩
  | 110 => ⟨S9216x1, .i1⟩
  | 111 => ⟨S9216x1, .i1⟩
  | 112 => ⟨S_, .i1⟩
  | 113 => ⟨S9216, .i1⟩
  | 114 => ⟨S9216x64, .f32⟩
  | 115 => ⟨S9216x64, .i1⟩
  | 116 => ⟨S_, .f32⟩
  | 117 => ⟨S9216x64, .f32⟩
  | 118 => ⟨S9216x64, .f32⟩
  | 119 => ⟨S16x576x64, .f32⟩
  | 120 => ⟨S16x576x64, .f32⟩
  | 121 => ⟨S16x576x64, .f32⟩
  | 122 => ⟨S_, .f32⟩
  | 123 => ⟨S_, .f32⟩
  | 124 => ⟨S_, .f32⟩
  | 125 => ⟨S_, .f32⟩
  | 126 => ⟨S16x576x64, .f32⟩
  | 127 => ⟨S16x576x64, .f32⟩
  | _ => ⟨S16x576x64, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S16x576, .i32⟩
  | 5 => ⟨S16x576x64, .f32⟩
  | 6 => ⟨S_, .f32⟩
  | 7 => ⟨S_, .f32⟩
  | 8 => ⟨S16x576x64, .f32⟩
  | 9 => ⟨S16x576x64, .f32⟩
  | 10 => ⟨S16x576x64, .f32⟩
  | 11 => ⟨S_, .f32⟩
  | 12 => ⟨S_, .f32⟩
  | 13 => ⟨S_, .f32⟩
  | 14 => ⟨S_, .f32⟩
  | 15 => ⟨S1x16x576, .i32⟩
  | 16 => ⟨S1x16x576, .i32⟩
  | 17 => ⟨S1x16x576, .i32⟩
  | 18 => ⟨S1x16x576, .i32⟩
  | 19 => ⟨S4x16x576, .i32⟩
  | _ => ⟨S16x576x64, .f32⟩

abbrev hbmTy (i : Nat) : BufTy := match i / 128 with
  | 0 => hbmTy0_0 i
  | 1 => hbmTy0_1 i
  | 2 => hbmTy0_2 i
  | _ => ⟨S16x576x64, .f32⟩

abbrev bufTy : (tb : Table) → Fin (tcTables nBuf tb) → BufTy
  | .hbm, ⟨i, _⟩ => hbmTy i
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v16 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_v21 : Ref sig .tc := ⟨.hbm, 57, rfl⟩
abbrev main_cst_4 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_5 : Ref sig .tc := ⟨.hbm, 62, rfl⟩
abbrev main_v25 : Ref sig .tc := ⟨.hbm, 63, rfl⟩
abbrev main_cst_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_cst_8 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_10 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_11 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_call2_v0 : Ref sig .tc := ⟨.hbm, 91, rfl⟩
abbrev main_call2_cst : Ref sig .tc := ⟨.hbm, 92, rfl⟩
abbrev main_call2_c : Ref sig .tc := ⟨.hbm, 93, rfl⟩
abbrev main_call2_v1_0 : Ref sig .tc := ⟨.hbm, 94, rfl⟩
abbrev main_v47 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_cst_12 : Ref sig .tc := ⟨.hbm, 122, rfl⟩
abbrev main_v52 : Ref sig .tc := ⟨.hbm, 123, rfl⟩
abbrev main_cst_13 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_cst_14 : Ref sig .tc := ⟨.hbm, 128, rfl⟩
abbrev main_v56 : Ref sig .tc := ⟨.hbm, 129, rfl⟩
abbrev main_cst_15 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_16 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_cst_17 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_18 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_call4_v0 : Ref sig .tc := ⟨.hbm, 155, rfl⟩
abbrev main_call4_cst : Ref sig .tc := ⟨.hbm, 156, rfl⟩
abbrev main_call4_c : Ref sig .tc := ⟨.hbm, 157, rfl⟩
abbrev main_call4_v1_0 : Ref sig .tc := ⟨.hbm, 158, rfl⟩
abbrev main_v78 : Ref sig .tc := ⟨.hbm, 159, rfl⟩
abbrev main_call5_c : Ref sig .tc := ⟨.hbm, 160, rfl⟩
abbrev main_call5_v0 : Ref sig .tc := ⟨.hbm, 161, rfl⟩
abbrev main_call5_v1 : Ref sig .tc := ⟨.hbm, 162, rfl⟩
abbrev main_call5_c_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_c_1 : Ref sig .tc := ⟨.hbm, 168, rfl⟩
abbrev main_call5_c_2 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_c_3 : Ref sig .tc := ⟨.hbm, 176, rfl⟩
abbrev main_call5_v12 : Ref sig .tc := ⟨.hbm, 177, rfl⟩
abbrev main_call5_v13 : Ref sig .tc := ⟨.hbm, 178, rfl⟩
abbrev main_call5_v14 : Ref sig .tc := ⟨.hbm, 179, rfl⟩
abbrev main_call5_cst : Ref sig .tc := ⟨.hbm, 180, rfl⟩
abbrev main_call5_v15 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_cst_19 : Ref sig .tc := ⟨.hbm, 186, rfl⟩
abbrev main_v83 : Ref sig .tc := ⟨.hbm, 187, rfl⟩
abbrev main_cst_20 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_cst_21 : Ref sig .tc := ⟨.hbm, 192, rfl⟩
abbrev main_v87 : Ref sig .tc := ⟨.hbm, 193, rfl⟩
abbrev main_cst_22 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_cst_23 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_cst_24 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_cst_25 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_call6_v0 : Ref sig .tc := ⟨.hbm, 219, rfl⟩
abbrev main_call6_cst : Ref sig .tc := ⟨.hbm, 220, rfl⟩
abbrev main_call6_c : Ref sig .tc := ⟨.hbm, 221, rfl⟩
abbrev main_call6_v1_0 : Ref sig .tc := ⟨.hbm, 222, rfl⟩
abbrev main_v109 : Ref sig .tc := ⟨.hbm, 223, rfl⟩
abbrev main_call7_c : Ref sig .tc := ⟨.hbm, 224, rfl⟩
abbrev main_call7_v0 : Ref sig .tc := ⟨.hbm, 225, rfl⟩
abbrev main_call7_v1 : Ref sig .tc := ⟨.hbm, 226, rfl⟩
abbrev main_call7_c_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_c_1 : Ref sig .tc := ⟨.hbm, 232, rfl⟩
abbrev main_call7_c_2 : Ref sig .tc := ⟨.hbm, 233, rfl⟩
abbrev main_call7_v6 : Ref sig .tc := ⟨.hbm, 234, rfl⟩
abbrev main_call7_v7 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_c_3 : Ref sig .tc := ⟨.hbm, 240, rfl⟩
abbrev main_call7_v12 : Ref sig .tc := ⟨.hbm, 241, rfl⟩
abbrev main_call7_v13 : Ref sig .tc := ⟨.hbm, 242, rfl⟩
abbrev main_call7_v14 : Ref sig .tc := ⟨.hbm, 243, rfl⟩
abbrev main_call7_cst : Ref sig .tc := ⟨.hbm, 244, rfl⟩
abbrev main_call7_v15 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_cst_26 : Ref sig .tc := ⟨.hbm, 250, rfl⟩
abbrev main_v114 : Ref sig .tc := ⟨.hbm, 251, rfl⟩
abbrev main_cst_27 : Ref sig .tc := ⟨.hbm, 252, rfl⟩
abbrev main_v115 : Ref sig .tc := ⟨.hbm, 253, rfl⟩
abbrev main_v116 : Ref sig .tc := ⟨.hbm, 254, rfl⟩
abbrev main_v117 : Ref sig .tc := ⟨.hbm, 255, rfl⟩
abbrev main_cst_28 : Ref sig .tc := ⟨.hbm, 256, rfl⟩
abbrev main_v118 : Ref sig .tc := ⟨.hbm, 257, rfl⟩
abbrev main_cst_29 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_cst_30 : Ref sig .tc := ⟨.hbm, 267, rfl⟩
abbrev main_v127 : Ref sig .tc := ⟨.hbm, 268, rfl⟩
abbrev main_cst_31 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩

abbrev nD : Nat := 1
abbrev τ : Topo := Topo.v7x

variable {F : FTy → Type} [FloatOps F]
-- ==== Proof.Nearest.lean ====
/-
  The code a quantizer level picks: the first index among those of least distance, and what the two programs compute
  when they look for it. Everything here is about plain functions; no program is mentioned.
-/
module

public import Idealize.ShloMosaic.PureOps.Ideal.Laws
public import Idealize.ShloMosaic.PureOps.Reduce

@[expose] public section

noncomputable section

namespace Cert.Nearest

open Idealize.ShloMosaic

variable {n : ℕ}

/-- `k` is the first index of least distance: every other index is farther, or as far and not before `k`. -/
def IsFirst (d : Fin n → EReal) (k : Fin n) : Prop := ∀ k', d k < d k' ∨ (d k = d k' ∧ k ≤ k')

/-- Some index is the first of least distance. -/
theorem exists_isFirst [NeZero n] (d : Fin n → EReal) : ∃ k, IsFirst d k := by
  obtain ⟨k, hk⟩ := Finite.exists_min (fun k : Fin n => toLex (d k, k))
  refine ⟨k, fun k' => ?_⟩
  rcases Prod.Lex.toLex_le_toLex.mp (hk k') with h | h
  · exact .inl h
  · exact .inr h

/-- The first index of least distance. -/
def first [NeZero n] (d : Fin n → EReal) : Fin n := Classical.choose (exists_isFirst d)

/-- The first least place is one. -/
theorem first_spec [NeZero n] (d : Fin n → EReal) : IsFirst d (first d) := Classical.choose_spec (exists_isFirst d)

/-- There is one such index only. -/
theorem IsFirst.unique {d : Fin n → EReal} {k k' : Fin n} (h : IsFirst d k) (h' : IsFirst d k') : k = k' := by
  rcases h k' with h1 | ⟨h1, h2⟩ <;> rcases h' k with h3 | ⟨h3, h4⟩
  · exact absurd h3 (not_lt_of_gt h1)
  · exact absurd h3 (ne_of_gt h1)
  · exact absurd h1 (ne_of_gt h3)
  · exact le_antisymm h2 h4

/-- There is only one first least place. -/
theorem first_eq [NeZero n] {d : Fin n → EReal} {k : Fin n} (h : IsFirst d k) : first d = k := (first_spec d).unique h

/-- The value at the first least place is a least one. -/
theorem IsFirst.le {d : Fin n → EReal} {k : Fin n} (h : IsFirst d k) (k' : Fin n) : d k ≤ d k' := by
  rcases h k' with h1 | ⟨h1, _⟩
  · exact h1.le
  · exact h1.le

/-! ## Words -/

/-- A small natural number, read back off its word as a signed integer. -/
theorem toInt_ofNat_small {k : ℕ} (h : k < 2 ^ 31) : (BitVec.ofNat 32 k).toInt = k := by
  rw [BitVec.toInt_eq_toNat_cond, BitVec.toNat_ofNat]; omega

/-- The lesser of two signed words is one of them and at most each of them. -/
theorem minsi_cases (a b : BitVec 32) :
    (IntOp.minsi a b = a ∨ IntOp.minsi a b = b) ∧ (IntOp.minsi a b).toInt ≤ a.toInt ∧ (IntOp.minsi a b).toInt ≤ b.toInt := by
  unfold IntOp.minsi
  simp only [BitVec.slt, decide_eq_true_eq]
  split_ifs with h
  · exact ⟨.inl rfl, le_refl _, by omega⟩
  · exact ⟨.inr rfl, by omega, le_refl _⟩

/-- The signed minimum over a set is at most its start and every word, and is one of them. -/
theorem fold_minsi_spec {ι : Type} [DecidableEq ι] (s : Finset ι) (b : BitVec 32) (f : ι → BitVec 32) :
    (s.fold IntOp.minsi b f = b ∨ ∃ i ∈ s, s.fold IntOp.minsi b f = f i)
      ∧ (s.fold IntOp.minsi b f).toInt ≤ b.toInt ∧ ∀ i ∈ s, (s.fold IntOp.minsi b f).toInt ≤ (f i).toInt := by
  induction s using Finset.induction_on with
  | empty => simp
  | insert a s ha ih =>
    rw [Finset.fold_insert ha]
    obtain ⟨hm, hb, hf⟩ := ih
    obtain ⟨hc, hl, hr⟩ := minsi_cases (f a) (s.fold IntOp.minsi b f)
    refine ⟨?_, hr.trans hb, fun i hi => ?_⟩
    · rcases hc with hc | hc
      · exact .inr ⟨a, Finset.mem_insert_self _ _, hc⟩
      · rcases hm with hm | ⟨i, hi, hm⟩
        · exact .inl (hc.trans hm)
        · exact .inr ⟨i, Finset.mem_insert_of_mem hi, hc.trans hm⟩
    · rcases Finset.mem_insert.mp hi with rfl | hi
      · exact hl
      · exact hr.trans (hf i hi)

/-! ## The two searches -/

/-- Take the least distance, keep the index where the distance equals it and a number past the end elsewhere, take the
    least of those: that is the first index of least distance. -/
theorem fold_where_eq [NeZero n] (hn : n ≤ 1024) (d : Fin n → EReal) (m : EReal) (hle : ∀ k, m ≤ d k)
    (hm : ∃ k, m = d k) (f : Fin n → BitVec 32)
    (hf : ∀ k : Fin n, f k = if d k = m then BitVec.ofNat 32 k.val else 1024#32) :
    (Finset.univ : Finset (Fin n)).fold IntOp.minsi 2147483647#32 f = BitVec.ofNat 32 (first d).val := by
  have hs := first_spec d
  have hd : d (first d) = m := by
    obtain ⟨k, hk⟩ := hm
    exact le_antisymm ((hs.le k).trans_eq hk.symm) (hle _)
  have hlt := (first d).isLt
  obtain ⟨hmem, -, hall⟩ := fold_minsi_spec Finset.univ 2147483647#32 f
  have h1 := hall (first d) (Finset.mem_univ _)
  rw [hf, if_pos hd, toInt_ofNat_small (by omega)] at h1
  rcases hmem with h | ⟨k, -, h⟩
  · rw [h] at h1
    have : (2147483647#32).toInt = 2147483647 := by decide
    omega
  · rw [h, hf] at h1 ⊢
    have hk := k.isLt
    split_ifs at h1 ⊢ with hkm
    · rw [toInt_ofNat_small (by omega)] at h1
      rcases hs k with h2 | ⟨_, h2⟩
      · exact absurd (hd.trans hkm.symm) (ne_of_lt h2)
      · have : (first d).val ≤ k.val := h2
        rw [show k.val = (first d).val by omega]
    · have : (1024#32).toInt = 1024 := by decide
      omega

/-- A pair of a distance and an index word is no later than another: nearer, or as near with no greater index. -/
def NoLater (a b : EReal × BitVec 32) : Prop := a.1 < b.1 ∨ (a.1 = b.1 ∧ a.2.toInt ≤ b.2.toInt)

/-- A pair is no later than itself. -/
theorem NoLater.refl (a : EReal × BitVec 32) : NoLater a a := .inr ⟨rfl, le_refl _⟩

/-- Being no later is transitive. -/
theorem NoLater.trans {a b c : EReal × BitVec 32} (h : NoLater a b) (h' : NoLater b c) : NoLater a c := by
  rcases h with h | ⟨h, g⟩ <;> rcases h' with h' | ⟨h', g'⟩
  · exact .inl (h.trans h')
  · exact .inl (h' ▸ h)
  · exact .inl (h ▸ h')
  · exact .inr ⟨h.trans h', g.trans g'⟩

/-- A step that keeps one of its two pairs, no later than either, folded over a list keeps one of the pairs, no later
    than any. -/
theorem foldl_keeps {ι : Type} (g : EReal × BitVec 32 → EReal × BitVec 32 → EReal × BitVec 32)
    (hg : ∀ a b, (g a b = a ∨ g a b = b) ∧ NoLater (g a b) a ∧ NoLater (g a b) b) (f : ι → EReal × BitVec 32) (l : List ι) :
    ∀ r : EReal × BitVec 32,
      (l.foldl (fun r i => g r (f i)) r = r ∨ ∃ i ∈ l, l.foldl (fun r i => g r (f i)) r = f i)
        ∧ NoLater (l.foldl (fun r i => g r (f i)) r) r ∧ ∀ i ∈ l, NoLater (l.foldl (fun r i => g r (f i)) r) (f i) := by
  induction l with
  | nil => intro r; exact ⟨.inl rfl, NoLater.refl r, fun _ h => absurd h List.not_mem_nil⟩
  | cons a l ih =>
    intro r
    rw [List.foldl_cons]
    obtain ⟨hm, hr, hl⟩ := ih (g r (f a))
    obtain ⟨hc, h1, h2⟩ := hg r (f a)
    refine ⟨?_, hr.trans h1, fun i hi => ?_⟩
    · rcases hm with hm | ⟨i, hi, hm⟩
      · rcases hc with hc | hc
        · exact .inl (hm.trans hc)
        · exact .inr ⟨a, List.mem_cons_self, hm.trans hc⟩
      · exact .inr ⟨i, List.mem_cons_of_mem _ hi, hm⟩
    · rcases List.mem_cons.mp hi with rfl | hi
      · exact hr.trans h2
      · exact hl i hi

/-- The pair of least distance and its index, searched from `(⊤, 0)`: the index found is the first of least distance. -/
theorem index_of_kept [NeZero n] (hn : n ≤ 1024) (d : Fin n → EReal) (p : EReal × BitVec 32)
    (hmem : p = (⊤, 0#32) ∨ ∃ k : Fin n, p = (d k, BitVec.ofNat 32 k.val))
    (hle : ∀ k : Fin n, NoLater p (d k, BitVec.ofNat 32 k.val)) : p.2 = BitVec.ofNat 32 (first d).val := by
  have key : ∃ k : Fin n, p = (d k, BitVec.ofNat 32 k.val) := by
    rcases hmem with rfl | h
    · refine ⟨0, ?_⟩
      rcases hle 0 with h | ⟨h, _⟩
      · exact absurd h not_top_lt
      · rw [← show (⊤ : EReal) = d 0 from h]; rfl
    · exact h
  obtain ⟨k, rfl⟩ := key
  have hf : IsFirst d k := fun k' => by
    rcases hle k' with h | ⟨h, g⟩
    · exact .inl h
    · refine .inr ⟨h, ?_⟩
      have := k.isLt; have := k'.isLt
      have g' : (BitVec.ofNat 32 k.val).toInt ≤ (BitVec.ofNat 32 k'.val).toInt := g
      rw [toInt_ofNat_small (by omega), toInt_ofNat_small (by omega)] at g'
      exact Fin.le_def.mpr (by omega)
  rw [first_eq hf]

end Cert.Nearest

end
-- ==== Proof.Spec.lean ====
/-
  One quantizer level on one row of numbers, free of any program: the squared distances of the row to the codes, the code
  of least distance, the row that is left.
-/
module

public import proofs.«01_k».proof.Proof.Nearest

@[expose] public section

noncomputable section

namespace Cert.Spec

open Idealize.ShloMosaic Cert.Nearest

/-- The squared distances of a row to the codes, grouped as both programs group them. -/
def dists (f : Fin 64 → EReal) (E : Fin 1024 → Fin 64 → EReal) : Fin 1024 → EReal := fun j =>
  (∑ k, f k * f k) + (∑ k, E j k * E j k) - Ideal.ofBits .f32 0x40000000#32 * ∑ k, f k * E j k

/-- The code of least distance. -/
def best (f : Fin 64 → EReal) (E : Fin 1024 → Fin 64 → EReal) : Fin 1024 := first (dists f E)

/-- The code picked for a row, and what is left of the row. -/
def pick (f : Fin 64 → EReal) (E : Fin 1024 → Fin 64 → EReal) : Fin 64 → EReal := E (best f E)

/-- What is left of a row after one level. -/
def left (f : Fin 64 → EReal) (E : Fin 1024 → Fin 64 → EReal) : Fin 64 → EReal := fun k => f k - pick f E k

/-- The squared error of a row at one level. -/
def err (f : Fin 64 → EReal) (E : Fin 1024 → Fin 64 → EReal) : EReal := ∑ k, (f k - pick f E k) * (f k - pick f E k)

/-- The quantized row of four levels, written as both programs write it. -/
def out (f : Fin 64 → EReal) (A B C D : Fin 1024 → Fin 64 → EReal) : Fin 64 → EReal := fun k =>
  f k + (pick f A k + pick (left f A) B k + pick (left (left f A) B) C k + pick (left (left (left f A) B) C) D k - f k)

/-- The index picked at each level. -/
def code (f : Fin 64 → EReal) (A B C D : Fin 1024 → Fin 64 → EReal) : Fin 4 → Fin 1024 :=
  ![best f A, best (left f A) B, best (left (left f A) B) C, best (left (left (left f A) B) C) D]

/-- The four squared errors of a row. -/
def errs (f : Fin 64 → EReal) (A B C D : Fin 1024 → Fin 64 → EReal) : EReal :=
  err f A + err (left f A) B + err (left (left f A) B) C + err (left (left (left f A) B) C) D

/-- The constants of the two programs. -/
theorem lit_top : Ideal.ofBits .f32 0x7F800000#32 = ⊤ := by simp [Ideal.ofBits, Ideal.ieee]

/-- The literal 589824, the number of elements. -/
theorem lit_entries : Ideal.ofBits .f32 0x49100000#32 = ((589824 : ℝ) : EReal) := by
  simp [Ideal.ofBits, Ideal.ieee, -EReal.coe_mul]; norm_num

/-- The literal 4, the number of levels. -/
theorem lit_levels : Ideal.ofBits .f32 0x40800000#32 = ((4 : ℝ) : EReal) := by
  simp [Ideal.ofBits, Ideal.ieee, -EReal.coe_mul]; norm_num

/-- Division by a positive number shares out over a sum of nonnegative terms. -/
theorem add_mul_of_nonneg {a b c : EReal} (ha : 0 ≤ a) (hb : 0 ≤ b) : a * c + b * c = (a + b) * c :=
  (EReal.right_distrib_of_nonneg ha hb).symm

/-- Division by a real other than zero is multiplication by its inverse. -/
theorem div_lit (x : EReal) (r : ℝ) (hr : r ≠ 0) : Ideal.div x (r : EReal) = x * ((r⁻¹ : ℝ) : EReal) := by
  rw [Ideal.div, if_neg (by exact_mod_cast hr), EReal.coe_inv]

/-- The mean of the four levels' means is the sum of all squares times one constant. -/
theorem mean_of_means {a b c d : EReal} (ha : 0 ≤ a) (hb : 0 ≤ b) (hc : 0 ≤ c) (hd : 0 ≤ d) :
    Ideal.div (0 + Ideal.div a (Ideal.ofBits .f32 0x49100000#32) + Ideal.div b (Ideal.ofBits .f32 0x49100000#32)
        + Ideal.div c (Ideal.ofBits .f32 0x49100000#32) + Ideal.div d (Ideal.ofBits .f32 0x49100000#32))
        (Ideal.ofBits .f32 0x40800000#32)
      = (a + b + c + d) * ((1 / 2359296 : ℝ) : EReal) := by
  rw [lit_entries, lit_levels, div_lit _ _ (by norm_num), div_lit _ _ (by norm_num), div_lit _ _ (by norm_num),
    div_lit _ _ (by norm_num), div_lit _ _ (by norm_num), zero_add, add_mul_of_nonneg ha hb,
    add_mul_of_nonneg (add_nonneg ha hb) hc, add_mul_of_nonneg (add_nonneg (add_nonneg ha hb) hc) hd, mul_assoc,
    ← EReal.coe_mul]
  norm_num

/-- A square is not negative, whatever the number. -/
theorem sq_nonneg (a : EReal) : 0 ≤ a * a := by
  rcases le_total 0 a with h | h
  · exact EReal.mul_nonneg h h
  · rw [← neg_mul_neg]
    have := EReal.neg_nonneg.mpr h
    exact EReal.mul_nonneg this this

/-- The square of a difference does not depend on its order, infinities included. -/
theorem sq_sub_comm (a b : EReal) : (a - b) * (a - b) = (b - a) * (b - a) := by
  induction a with
  | bot => induction b <;> first | rfl | simp
  | top => induction b <;> first | rfl | simp
  | coe x => induction b with
    | bot => simp
    | top => simp
    | coe y =>
      norm_cast
      ring

/-- The squared error of a row is not negative. -/
theorem err_nonneg (f : Fin 64 → EReal) (E : Fin 1024 → Fin 64 → EReal) : 0 ≤ err f E :=
  Finset.sum_nonneg fun _ _ => sq_nonneg _

end Cert.Spec

end
-- ==== Proof.KLevel.lean ====
/-
  One quantizer level of the kernel on a block of 1024 rows, and what it is row by row.
-/
module

public import proofs.«01_k».proof.KernelIdeal
public import proofs.«01_k».proof.Proof.Gen.KernelIdeal.Skeleton
public import proofs.«01_k».proof.Proof.Spec
public import Idealize.ShloMosaic.PureOps.Ideal.Laws
public import Idealize.ShloMosaic.Lib.Pointwise

@[expose] public section

set_option maxRecDepth 16384

noncomputable section

namespace Cert.KernelIdeal.Level

open Idealize.ShloMosaic Idealize.ShloMosaic.TcCoe Idealize.SL.Sem Cert.KernelIdeal Cert.KernelIdeal.Gen
open Cert.Nearest Cert.Spec

/-- The column number of every entry. -/
def column : IVec S1024x1024 32 := iota .tc S1024x1024 32 [1] iota_S1024x1024_d1_w32

/-- The squared distances of the rows of `x` to the codes `E`, whose squared norms are `n`. -/
def dist (x E : FVec Ideal S1024x64 .f32) (n : FVec Ideal S1x1024 .f32) : FVec Ideal S1024x1024 .f32 :=
  subf
    (addf
      (broadcastTo S1024x1024
        (shapeCast S1024x1
          (multiReduction .add [1] S1024 (mulf x x) 0x00000000#32 reduces_S1024x64_S1024 (.inl rfl) rfl)
          shapeCasts_S1024_S1024x1)
        broadcasts_S1024x1_S1024x1024)
      (broadcastTo S1024x1024 n broadcasts_S1x1024_S1024x1024))
    (mulf (broadcast S1024x1024 (Scalar.ofBits .f32 0x40000000#32))
      (matmul dot_S1024x64_S1024x64_S1024x1024_1_1_0_0_n_n none x E (constant S1024x1024 .f32 0x00000000#32)))

/-- Where a row attains its least distance. -/
def least (D : FVec Ideal S1024x1024 .f32) : IVec S1024x1024 1 :=
  cmpf .oeq D
    (broadcastTo S1024x1024
      (shapeCast S1024x1
        (multiReduction .minimumf [1] S1024 D 0x7F800000#32 reduces_S1024x1024_S1024 (.inl rfl) rfl)
        shapeCasts_S1024_S1024x1)
      broadcasts_S1024x1_S1024x1024)

/-- The index picked for every row. -/
def index (D : FVec Ideal S1024x1024 .f32) : IVec S1024 32 :=
  multiReductionI .minsi [1] S1024 (select (least D) column (broadcast S1024x1024 1024#32)) 2147483647#32 reduces_S1024x1024_S1024 rfl

/-- The codes at the indices `i`. -/
def codes (i : IVec S1024 32) (E : FVec Ideal S1024x64 .f32) : FVec Ideal S1024x64 .f32 :=
  matmul dot_S1024x1024_S1024x64_S1024x64_1_0_0_1_n_n none
    (sitofp .f32 (extui 32 (cmpi .eq column
      (broadcastTo S1024x1024 (shapeCast S1024x1 i shapeCasts_S1024_S1024x1) broadcasts_S1024x1_S1024x1024)) natLt_1_32))
    E (constant S1024x64 .f32 0x00000000#32)

/-- The sum of all squares of a block. -/
def squares (x : FVec Ideal S1024x64 .f32) : Ideal .f32 :=
  extractAt ![0, 0, 0]
    (shapeCast S1x1x1
      (multiReduction .add [1, 2] S1 (shapeCast S1x1024x64 (mulf x x) shapeCasts_S1024x64_S1x1024x64) 0x00000000#32
        reduces_S1x1024x64_S1 (.inl rfl) rfl)
      shapeCasts_S1_S1x1x1)
    inpos_S1x1x1_p0_0_0

/-- A row of a block. -/
def row {n : ℕ} (f : FVec Ideal ⟨2, ![n, 64]⟩ .f32) (r : Fin n) : Fin 64 → EReal := fun k => f (ix2 r k)

/-- An element of the distances. -/
theorem dist_apply (x E : FVec Ideal S1024x64 .f32) (n : FVec Ideal S1x1024 .f32)
    (hn : ∀ j : Fin 1024, n (ix2 0 j) = ∑ k : Fin 64, E (ix2 j k) * E (ix2 j k)) (r j : Fin 1024) :
    dist x E n (ix2 r j) = dists (row x r) (row E) j := by
  unfold dist dists row
  pointwise
  rw [hn]

/-- The index found in a row is its first least entry. -/
theorem index_apply (D : FVec Ideal S1024x1024 .f32) (r : Fin 1024) :
    index D (ix1 r) = BitVec.ofNat 32 (first fun k : Fin 1024 => D (ix2 r k)).val := by
  unfold index least column
  pointwise
  rw [lit_top]
  refine fold_where_eq (le_refl _) (fun k : Fin 1024 => (D (ix2 r k) : EReal)) _ (fun k => ?_) ⟨first fun k => D (ix2 r k), ?_⟩ _
    fun k => rfl
  · exact (Finset.le_fold_min _).1 (le_refl _) |>.2 k (Finset.mem_univ k)
  · refine le_antisymm ((Finset.le_fold_min _).1 (le_refl _) |>.2 _ (Finset.mem_univ _)) ?_
    exact (Finset.le_fold_min _).2 ⟨le_top, fun k _ => (first_spec fun k => D (ix2 r k)).le k⟩

/-- The product with a row of one one is the row of the table at that place. -/
theorem codes_apply (i : IVec S1024 32) (E : FVec Ideal S1024x64 .f32) (r b : Fin 1024) (h : i (ix1 r) = BitVec.ofNat 32 b.val)
    (k : Fin 64) : codes i E (ix2 r k) = E (ix2 b k) := by
  unfold codes column
  pointwise
  rw [h]
  rw [Finset.sum_eq_single b]
  · simp [IntOp.cmpi, FloatOps.sitofp]
  · intro j _ hj
    have hne : BitVec.ofNat 32 j.val ≠ BitVec.ofNat 32 b.val := fun e => hj (Fin.ext (by
      have := congrArg BitVec.toNat e
      simp only [BitVec.toNat_ofNat] at this
      have := j.isLt; have := b.isLt
      omega))
    simp [IntOp.cmpi, FloatOps.sitofp, beq_eq_false_iff_ne.2 hne]
  · exact fun hb => absurd (Finset.mem_univ _) hb

/-- The sum of squares, written as a double sum. -/
theorem squares_eq (x : FVec Ideal S1024x64 .f32) : squares x = ∑ r : Fin 1024, ∑ k : Fin 64, x (ix2 r k) * x (ix2 r k) := by
  unfold squares
  pointwise

end Cert.KernelIdeal.Level

end
-- ==== Proof.KBlock.lean ====
/-
  The whole body of the kernel on one block of 1024 rows: its stored values as the four levels in turn,
  and those values row by row.
-/
module

public import proofs.«01_k».proof.Proof.KLevel

@[expose] public section

set_option maxRecDepth 16384

noncomputable section

namespace Cert.KernelIdeal.Level

open Idealize.ShloMosaic Idealize.ShloMosaic.TcCoe Idealize.SL.Sem Cert.KernelIdeal Cert.KernelIdeal.Gen
open Cert.Nearest Cert.Spec

/-- A block of rows, and a row of squared norms. -/
abbrev Rows := FVec Ideal S1024x64 .f32
/-- One row of norms. -/
abbrev Norms := FVec Ideal S1x1024 .f32

/-- The codes picked for a block, and what they leave of it. -/
def chosen (x E : Rows) (n : Norms) : Rows := codes (index (dist x E n)) E

/-- What is left of the rows once the chosen codes are taken off. -/
def rest (x E : Rows) (n : Norms) : Rows := subf x (chosen x E n)

section Stored
variable (x y E E0 E1 E2 E3 : Rows) (n n0 n1 n2 n3 : Norms)

/-- A cast of an array to its own shape changes nothing: the five that the body makes. -/
theorem same9 : k0_pay9 x = x := shapeCast_id x _
theorem same10 : k0_pay10 E = E := shapeCast_id E _
theorem same16 : k0_pay16 E = E := shapeCast_id E _
theorem same22 : k0_pay22 E = E := shapeCast_id E _
theorem same30 : k0_pay30 E = E := shapeCast_id E _

/-- The first level. -/
theorem index0 : k0_pay11 (F := Ideal) x E n = index (dist x E n) := by
  unfold k0_pay11; rw [same9, same10]; rfl

/-- First level: the chosen codes, what is left, the sum so far and the sum of squares. -/
theorem chosen0 : k0_pay12 x E n = chosen x E n := by
  unfold k0_pay12; rw [index0, same10]; rfl

theorem rest0 : k0_pay14 x E n = rest x E n := by
  unfold k0_pay14; rw [chosen0, same9]; rfl

theorem sum0 : k0_pay13 x E n = addf (broadcast S1024x64 (Scalar.ofBits .f32 0x00000000#32)) (chosen x E n) := by
  unfold k0_pay13; rw [chosen0]

theorem squares0 : k0_pay15 x E n = squares (rest x E n) := by
  unfold k0_pay15; rw [rest0]; rfl

/-- The second level. -/
theorem index1 : k0_pay17 column x E n = index (dist x E n) := by
  unfold k0_pay17; rw [same16]; rfl

/-- Second level, likewise. -/
theorem chosen1 : k0_pay18 column x E n = chosen x E n := by
  unfold k0_pay18; rw [index1, same16]; rfl

theorem rest1 : k0_pay20 column x E n = rest x E n := by
  unfold k0_pay20; rw [chosen1]; rfl

theorem sum1 : k0_pay19 column y x E n = addf y (chosen x E n) := by
  unfold k0_pay19; rw [chosen1]

theorem squares1 (a b : Ideal .f32) :
    k0_pay21 column x a b E n = Scalar.addf (Scalar.addf b a) (squares (rest x E n)) := by
  unfold k0_pay21; rw [rest1]; rfl

/-- The third level. -/
theorem index2 : k0_pay25 column n2 (k0_pay23 column x E1 n1) (k0_pay24 column x E1 n1 E2) = index (dist (rest x E1 n1) E2 n2) := by
  unfold k0_pay25 k0_pay23 k0_pay24; rw [rest1, same22]; rfl

/-- Third level, likewise. -/
theorem chosen2 : k0_pay26 column E2 n2 (k0_pay23 column x E1 n1) (k0_pay24 column x E1 n1 E2) = chosen (rest x E1 n1) E2 n2 := by
  unfold k0_pay26; rw [index2]; rfl

theorem sum2 : k0_pay27 column y E2 n2 (k0_pay23 column x E1 n1) (k0_pay24 column x E1 n1 E2)
    = addf y (chosen (rest x E1 n1) E2 n2) := by
  unfold k0_pay27; rw [chosen2]

theorem rest2 : k0_pay28 column (rest x E1 n1) E2 n2 (k0_pay23 column x E1 n1) (k0_pay24 column x E1 n1 E2)
    = rest (rest x E1 n1) E2 n2 := by
  unfold k0_pay28; rw [chosen2]; rfl

theorem squares2 (a : Ideal .f32) :
    k0_pay29 column (rest x E1 n1) a E2 n2 (k0_pay23 column x E1 n1) (k0_pay24 column x E1 n1 E2)
    = Scalar.addf a (squares (rest (rest x E1 n1) E2 n2)) := by
  unfold k0_pay29; rw [rest2]; rfl

/-- The fourth level. -/
theorem least3 : k0_pay31 (F := Ideal) column (rest x E1 n1) E2 n2 (k0_pay23 column x E1 n1) (k0_pay24 column x E1 n1 E2) E3 n3
    = least (dist (rest (rest x E1 n1) E2 n2) E3 n3) := by
  unfold k0_pay31; rw [rest2, same30]; rfl

/-- Fourth level: the indices and the chosen codes. -/
theorem index3 : k0_pay1 column (least (dist x E n)) k0_pay32 = index (dist x E n) := rfl

theorem chosen3 : k0_pay2 column E (least (dist x E n)) k0_pay32 = chosen x E n := by
  unfold k0_pay2; rw [index3]; rfl

/-- The block of quantized rows. -/
def blockQ : Rows :=
  addf x (subf
    (addf (addf (addf (addf (broadcast S1024x64 (Scalar.ofBits .f32 0x00000000#32)) (chosen x E0 n0)) (chosen (rest x E0 n0) E1 n1))
      (chosen (rest (rest x E0 n0) E1 n1) E2 n2)) (chosen (rest (rest (rest x E0 n0) E1 n1) E2 n2) E3 n3)) x)

/-- The block of indices. -/
def blockI : IVec S4x1024 32 :=
  concatenate S4x1024 0 [⟨S1x1024, shapeCast S1x1024 (index (dist x E0 n0)) shapeCasts_S1024_S1x1024⟩,
    ⟨S1x1024, shapeCast S1x1024 (index (dist (rest x E0 n0) E1 n1)) shapeCasts_S1024_S1x1024⟩,
    ⟨S1x1024, shapeCast S1x1024 (index (dist (rest (rest x E0 n0) E1 n1) E2 n2)) shapeCasts_S1024_S1x1024⟩,
    ⟨S1x1024, shapeCast S1x1024 (index (dist (rest (rest (rest x E0 n0) E1 n1) E2 n2) E3 n3)) shapeCasts_S1024_S1x1024⟩]
    concatenates_S1x1024_S1x1024_S1x1024_S1x1024_S4x1024_d0

/-- The sum of the block's squared errors. -/
def blockS : Ideal .f32 :=
  Scalar.addf (Scalar.addf (Scalar.addf (Scalar.addf (Scalar.ofBits .f32 0x00000000#32) (squares (rest x E0 n0)))
    (squares (rest (rest x E0 n0) E1 n1))) (squares (rest (rest (rest x E0 n0) E1 n1) E2 n2)))
    (squares (rest (rest (rest (rest x E0 n0) E1 n1) E2 n2) E3 n3))

/-- What the body stores as its quantized block. -/
theorem storedQ : k0_pay3 (k0_pay9 x) column
      (k0_pay27 column (k0_pay19 column (k0_pay13 x E0 n0) (k0_pay14 x E0 n0) E1 n1) (k0_pay22 E2) n2
        (k0_pay23 column (k0_pay14 x E0 n0) E1 n1) (k0_pay24 column (k0_pay14 x E0 n0) E1 n1 E2))
      (k0_pay30 E3)
      (k0_pay31 (F := Ideal) column (k0_pay20 column (k0_pay14 x E0 n0) E1 n1) (k0_pay22 E2) n2 (k0_pay23 column (k0_pay14 x E0 n0) E1 n1)
        (k0_pay24 column (k0_pay14 x E0 n0) E1 n1 E2) E3 n3)
      k0_pay32 = blockQ x E0 E1 E2 E3 n0 n1 n2 n3 := by
  rw [rest0, same22, rest1, least3, same30, sum0, sum1, sum2, same9]
  unfold k0_pay3; rw [chosen3]; rfl

/-- What the body stores as its index block. -/
theorem storedI : k0_pay4 column (k0_pay11 (F := Ideal) x E0 n0) (k0_pay17 (F := Ideal) column (k0_pay14 x E0 n0) E1 n1)
      (k0_pay25 (F := Ideal) column n2 (k0_pay23 (F := Ideal) column (k0_pay14 x E0 n0) E1 n1) (k0_pay24 (F := Ideal) column (k0_pay14 x E0 n0) E1 n1 E2))
      (k0_pay31 (F := Ideal) column (k0_pay20 column (k0_pay14 x E0 n0) E1 n1) (k0_pay22 E2) n2 (k0_pay23 column (k0_pay14 x E0 n0) E1 n1)
        (k0_pay24 column (k0_pay14 x E0 n0) E1 n1 E2) E3 n3)
      k0_pay32 = blockI x E0 E1 E2 E3 n0 n1 n2 n3 := by
  rw [rest0, same22, rest1, least3, index0, index1, index2]
  unfold k0_pay4; rw [index3]; rfl

/-- What the body adds to the loss block. -/
theorem storedS (a : FVec Ideal S1x1 .f32) : k0_pay5 column
      (k0_pay28 column (k0_pay20 column (k0_pay14 x E0 n0) E1 n1) (k0_pay22 E2) n2 (k0_pay23 column (k0_pay14 x E0 n0) E1 n1)
        (k0_pay24 column (k0_pay14 x E0 n0) E1 n1 E2))
      (k0_pay29 column (k0_pay20 column (k0_pay14 x E0 n0) E1 n1)
        (k0_pay21 column (k0_pay14 x E0 n0) (k0_pay15 x E0 n0) (FloatOps.ofBits FTy.f32 0#32) E1 n1) (k0_pay22 E2) n2
        (k0_pay23 column (k0_pay14 x E0 n0) E1 n1) (k0_pay24 column (k0_pay14 x E0 n0) E1 n1 E2))
      (k0_pay30 E3)
      (k0_pay31 (F := Ideal) column (k0_pay20 column (k0_pay14 x E0 n0) E1 n1) (k0_pay22 E2) n2 (k0_pay23 column (k0_pay14 x E0 n0) E1 n1)
        (k0_pay24 column (k0_pay14 x E0 n0) E1 n1 E2) E3 n3)
      k0_pay32 a = addf a (broadcast S1x1 (blockS x E0 E1 E2 E3 n0 n1 n2 n3)) := by
  rw [rest0, same22, rest1, least3, same30, squares0, squares1, squares2, rest2]
  unfold k0_pay5; rw [chosen3, shapeCast_id]; rfl

end Stored

/-- The norms of a table of codes, as the hypothesis the rows need. -/
def IsNorms (E : Rows) (n : Norms) : Prop := ∀ j : Fin 1024, n (ix2 0 j) = ∑ k : Fin 64, E (ix2 j k) * E (ix2 j k)

section Row
variable {x E E0 E1 E2 E3 : Rows} {n n0 n1 n2 n3 : Norms}

/-- The index of a row is its nearest code. -/
theorem index_row (h : IsNorms E n) (r : Fin 1024) :
    index (dist x E n) (ix1 r) = BitVec.ofNat 32 (best (row x r) (row E)).val := by
  rw [index_apply]
  congr 3
  funext j
  exact dist_apply x E n h r j

/-- The chosen code of a row is that of the specification. -/
theorem chosen_row (h : IsNorms E n) (r : Fin 1024) : row (chosen x E n) r = pick (row x r) (row E) :=
  funext fun k => codes_apply _ E r _ (index_row h r) k

/-- What is left of a row is that of the specification. -/
theorem rest_row (h : IsNorms E n) (r : Fin 1024) : row (rest x E n) r = left (row x r) (row E) :=
  funext fun k => by
    show row x r k - row (chosen x E n) r k = _
    rw [chosen_row h]; rfl

/-- The sum of squares of what is left is the sum of the errors of the rows. -/
theorem squares_rest (h : IsNorms E n) : squares (rest x E n) = ∑ r : Fin 1024, err (row x r) (row E) := by
  rw [squares_eq]
  refine Finset.sum_congr rfl fun r _ => Finset.sum_congr rfl fun k _ => ?_
  show row (rest x E n) r k * row (rest x E n) r k = _
  rw [rest_row h]; rfl

variable (h0 : IsNorms E0 n0) (h1 : IsNorms E1 n1) (h2 : IsNorms E2 n2) (h3 : IsNorms E3 n3)
include h0 h1 h2 h3

/-- An element of the quantized block, by its row alone. -/
theorem blockQ_apply (r : Fin 1024) (k : Fin 64) :
    blockQ x E0 E1 E2 E3 n0 n1 n2 n3 (ix2 r k) = out (row x r) (row E0) (row E1) (row E2) (row E3) k := by
  show row x r k + ((Ideal.ofBits .f32 0x00000000#32 + row (chosen x E0 n0) r k + row (chosen (rest x E0 n0) E1 n1) r k
      + row (chosen (rest (rest x E0 n0) E1 n1) E2 n2) r k + row (chosen (rest (rest (rest x E0 n0) E1 n1) E2 n2) E3 n3) r k)
      - row x r k) = _
  rw [chosen_row h0, chosen_row h1, chosen_row h2, chosen_row h3, rest_row h2, rest_row h1, rest_row h0]
  simp [Ideal.ofBits_zero, out]

/-- An element of the index block, by its row alone. -/
theorem blockI_apply (l : Fin 4) (r : Fin 1024) :
    blockI x E0 E1 E2 E3 n0 n1 n2 n3 (ix2 l r)
      = BitVec.ofNat 32 (code (row x r) (row E0) (row E1) (row E2) (row E3) l).val := by
  have a := index_row (x := x) h0 r
  have b := index_row (x := rest x E0 n0) h1 r
  have c := index_row (x := rest (rest x E0 n0) E1 n1) h2 r
  have d := index_row (x := rest (rest (rest x E0 n0) E1 n1) E2 n2) h3 r
  rw [rest_row h2] at d
  rw [rest_row h1] at c d
  rw [rest_row h0] at b c d
  unfold blockI
  fin_cases l
  · pointwise; exact a
  · pointwise; exact b
  · pointwise; exact c
  · pointwise; exact d

/-- The loss of a block as a sum over its rows. -/
theorem blockS_eq : blockS x E0 E1 E2 E3 n0 n1 n2 n3
    = ∑ r : Fin 1024, errs (row x r) (row E0) (row E1) (row E2) (row E3) := by
  show Ideal.ofBits .f32 0x00000000#32 + squares (rest x E0 n0) + squares (rest (rest x E0 n0) E1 n1)
    + squares (rest (rest (rest x E0 n0) E1 n1) E2 n2) + squares (rest (rest (rest (rest x E0 n0) E1 n1) E2 n2) E3 n3) = _
  rw [squares_rest h0, squares_rest h1, squares_rest h2, squares_rest h3]
  have z : Ideal.ofBits .f32 0x00000000#32 = 0 := by simp [Ideal.ofBits_zero]
  simp only [rest_row h2, rest_row h1, rest_row h0, z, zero_add, errs, Finset.sum_add_distrib]

end Row

/-- The norms of the four tables, as the kernel keeps them. -/
theorem norms_apply (E0 E1 E2 E3 : Rows) (l : Fin 4) (j : Fin 1024) :
    k0_pay7 E0 E1 E2 E3 (ix2 l j) = ∑ k : Fin 64, (![E0, E1, E2, E3] l) (ix2 j k) * (![E0, E1, E2, E3] l) (ix2 j k) := by
  unfold k0_pay7
  fin_cases l
  · pointwise
  · pointwise
  · pointwise
  · pointwise

end Cert.KernelIdeal.Level

end
-- ==== Proof.KPoint.lean ====
/-
  What one grid point leaves: its blocks of quantized rows and of indices, the running sum of the squared
  errors, and the norms of the codes kept from the first point on.
-/
module

public import proofs.«01_k».proof.Proof.KBlock
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Level

open Idealize.ShloMosaic Idealize.ShloMosaic.TcCoe Idealize.SL.Sem Cert.KernelIdeal Cert.KernelIdeal.Gen
open Idealize.ShloMosaic.Pipeline (Dat)
open Cert.Nearest Cert.Spec

variable (m : (ℓ : Loc nD τ sig) → Buf (Elt Ideal) ℓ)

/-- The four tables of a stack of codes. -/
def tab0 (X : FVec Ideal S4096x64 .f32) : Rows := View.ld (Val := Elt Ideal) (e' := .f32) (S := S4096x64) X (Rect.unit ![0, 0] ![1024, 64] inb_S4096x64_S1024x64_0_0)
def tab1 (X : FVec Ideal S4096x64 .f32) : Rows := View.ld (Val := Elt Ideal) (e' := .f32) (S := S4096x64) X (Rect.unit ![1024, 0] ![1024, 64] inb_S4096x64_S1024x64_1024_0)
def tab2 (X : FVec Ideal S4096x64 .f32) : Rows := View.ld (Val := Elt Ideal) (e' := .f32) (S := S4096x64) X (Rect.unit ![2048, 0] ![1024, 64] inb_S4096x64_S1024x64_2048_0)
def tab3 (X : FVec Ideal S4096x64 .f32) : Rows := View.ld (Val := Elt Ideal) (e' := .f32) (S := S4096x64) X (Rect.unit ![3072, 0] ![1024, 64] inb_S4096x64_S1024x64_3072_0)

/-- The four rows of the norms kept. -/
def nrm0 (S : FVec Ideal S4x1024 .f32) : Norms := View.ld (Val := Elt Ideal) (e' := .f32) (S := S4x1024) S (Rect.unit ![0, 0] ![1, 1024] inb_S4x1024_S1x1024_0_0)
def nrm1 (S : FVec Ideal S4x1024 .f32) : Norms := View.ld (Val := Elt Ideal) (e' := .f32) (S := S4x1024) S (Rect.unit ![1, 0] ![1, 1024] inb_S4x1024_S1x1024_1_0)
def nrm2 (S : FVec Ideal S4x1024 .f32) : Norms := View.ld (Val := Elt Ideal) (e' := .f32) (S := S4x1024) S (Rect.unit ![2, 0] ![1, 1024] inb_S4x1024_S1x1024_2_0)
def nrm3 (S : FVec Ideal S4x1024 .f32) : Norms := View.ld (Val := Elt Ideal) (e' := .f32) (S := S4x1024) S (Rect.unit ![3, 0] ![1, 1024] inb_S4x1024_S1x1024_3_0)

/-- The norms of a stack of codes. -/
def norms (X : FVec Ideal S4096x64 .f32) : FVec Ideal S4x1024 .f32 := k0_pay7 (tab0 X) (tab1 X) (tab2 X) (tab3 X)

/-- What the body stores, from a block of rows, the stack of codes and the norms kept. -/
def outQ (x : Rows) (X : FVec Ideal S4096x64 .f32) (S : FVec Ideal S4x1024 .f32) : Rows :=
  blockQ x (tab0 X) (tab1 X) (tab2 X) (tab3 X) (nrm0 S) (nrm1 S) (nrm2 S) (nrm3 S)

/-- The index block of a step. -/
def outI (x : Rows) (X : FVec Ideal S4096x64 .f32) (S : FVec Ideal S4x1024 .f32) : IVec S4x1024 32 :=
  blockI x (tab0 X) (tab1 X) (tab2 X) (tab3 X) (nrm0 S) (nrm1 S) (nrm2 S) (nrm3 S)

/-- The loss of a step. -/
def outS (x : Rows) (X : FVec Ideal S4096x64 .f32) (S : FVec Ideal S4x1024 .f32) : Ideal .f32 :=
  blockS x (tab0 X) (tab1 X) (tab2 X) (tab3 X) (nrm0 S) (nrm1 S) (nrm2 S) (nrm3 S)

/-- The whole scratch array starts at zero. -/
theorem zero_off : ∀ a : Fin S4x1024.rank, (![0, 0] : Fin 2 → ℕ) a = 0 := by decide

section A
variable (c : Dev nD) (t : Fin cfg0.N) (h0 : t.val % 9 = 0) (h1 : ¬t.val % 9 = 8)
include h0 h1

/-- First step: the scratch array holds the norms. -/
theorem scratch_A : (outsAt0 m c t.val t.isLt).2.2.2 = norms (iblk m c 1 t) := by
  rw [outsAt0_A m c t h0 h1]
  frame_out
  rfl

/-- First step: the quantized block. -/
theorem quant_A : (outsAt0 m c t.val t.isLt).1 = outQ (iblk m c 0 t) (iblk m c 1 t) (norms (iblk m c 1 t)) := by
  rw [outsAt0_A m c t h0 h1]
  frame_out
  simp only [↓View.readCov_fill (s := S4x1024) (off := ![0, 0]) (h := zero_off)]
  exact storedQ (iblk m c 0 t) (tab0 (iblk m c 1 t)) (tab1 (iblk m c 1 t)) (tab2 (iblk m c 1 t)) (tab3 (iblk m c 1 t)) _ _ _ _

/-- First step: the index block. -/
theorem index_A : (outsAt0 m c t.val t.isLt).2.1 = outI (iblk m c 0 t) (iblk m c 1 t) (norms (iblk m c 1 t)) := by
  rw [outsAt0_A m c t h0 h1]
  frame_out
  simp only [↓View.readCov_fill (s := S4x1024) (off := ![0, 0]) (h := zero_off)]
  exact storedI (iblk m c 0 t) (tab0 (iblk m c 1 t)) (tab1 (iblk m c 1 t)) (tab2 (iblk m c 1 t)) (tab3 (iblk m c 1 t)) _ _ _ _

/-- First step: the loss block holds the loss of its rows. -/
theorem sum_A : (outsAt0 m c t.val t.isLt).2.2.1
    = addf k0_pay8 (broadcast S1x1 (outS (iblk m c 0 t) (iblk m c 1 t) (norms (iblk m c 1 t)))) := by
  rw [outsAt0_A m c t h0 h1]
  frame_out
  simp only [↓View.readCov_fill (s := S4x1024) (off := ![0, 0]) (h := zero_off)]
  exact storedS (iblk m c 0 t) (tab0 (iblk m c 1 t)) (tab1 (iblk m c 1 t)) (tab2 (iblk m c 1 t)) (tab3 (iblk m c 1 t)) _ _ _ _ _

end A

section B
variable (c : Dev nD) (t : Fin cfg0.N) (h0 : ¬t.val % 9 = 0) (h1 : ¬t.val % 9 = 8)
include h0 h1

/-- Middle step: the scratch array stays. -/
theorem scratch_B : (outsAt0 m c t.val t.isLt).2.2.2 = (outsAt0 m c (t.val - 1) (Nat.lt_of_le_of_lt (Nat.sub_le _ _) t.isLt)).2.2.2 := by
  rw [outsAt0_B m c t h0 h1]
  rfl

/-- Middle step: the quantized block. -/
theorem quant_B : (outsAt0 m c t.val t.isLt).1 = outQ (iblk m c 0 t) (iblk m c 1 t)
    (outsAt0 m c (t.val - 1) (Nat.lt_of_le_of_lt (Nat.sub_le _ _) t.isLt)).2.2.2 := by
  rw [outsAt0_B m c t h0 h1]
  frame_out
  simp only [read_unread_whole]
  exact storedQ (iblk m c 0 t) (tab0 (iblk m c 1 t)) (tab1 (iblk m c 1 t)) (tab2 (iblk m c 1 t)) (tab3 (iblk m c 1 t)) _ _ _ _

/-- Middle step: the index block. -/
theorem index_B : (outsAt0 m c t.val t.isLt).2.1 = outI (iblk m c 0 t) (iblk m c 1 t)
    (outsAt0 m c (t.val - 1) (Nat.lt_of_le_of_lt (Nat.sub_le _ _) t.isLt)).2.2.2 := by
  rw [outsAt0_B m c t h0 h1]
  frame_out
  simp only [read_unread_whole]
  exact storedI (iblk m c 0 t) (tab0 (iblk m c 1 t)) (tab1 (iblk m c 1 t)) (tab2 (iblk m c 1 t)) (tab3 (iblk m c 1 t)) _ _ _ _

/-- Middle step: the loss of its rows is added. -/
theorem sum_B : (outsAt0 m c t.val t.isLt).2.2.1
    = addf (outsAt0 m c (t.val - 1) (Nat.lt_of_le_of_lt (Nat.sub_le _ _) t.isLt)).2.2.1
      (broadcast S1x1 (outS (iblk m c 0 t) (iblk m c 1 t)
        (outsAt0 m c (t.val - 1) (Nat.lt_of_le_of_lt (Nat.sub_le _ _) t.isLt)).2.2.2)) := by
  rw [outsAt0_B m c t h0 h1]
  frame_out
  simp only [read_unread_whole]
  exact storedS (iblk m c 0 t) (tab0 (iblk m c 1 t)) (tab1 (iblk m c 1 t)) (tab2 (iblk m c 1 t)) (tab3 (iblk m c 1 t)) _ _ _ _ _

end B

section C
variable (c : Dev nD) (t : Fin cfg0.N) (h0 : ¬t.val % 9 = 0) (h1 : t.val % 9 = 8)
include h0 h1

/-- Last step: the scratch array stays. -/
theorem scratch_C : (outsAt0 m c t.val t.isLt).2.2.2 = (outsAt0 m c (t.val - 1) (Nat.lt_of_le_of_lt (Nat.sub_le _ _) t.isLt)).2.2.2 := by
  rw [outsAt0_C m c t h0 h1]
  rfl

/-- Last step: the quantized block. -/
theorem quant_C : (outsAt0 m c t.val t.isLt).1 = outQ (iblk m c 0 t) (iblk m c 1 t)
    (outsAt0 m c (t.val - 1) (Nat.lt_of_le_of_lt (Nat.sub_le _ _) t.isLt)).2.2.2 := by
  rw [outsAt0_C m c t h0 h1]
  frame_out
  simp only [read_unread_whole]
  exact storedQ (iblk m c 0 t) (tab0 (iblk m c 1 t)) (tab1 (iblk m c 1 t)) (tab2 (iblk m c 1 t)) (tab3 (iblk m c 1 t)) _ _ _ _

/-- Last step: the index block. -/
theorem index_C : (outsAt0 m c t.val t.isLt).2.1 = outI (iblk m c 0 t) (iblk m c 1 t)
    (outsAt0 m c (t.val - 1) (Nat.lt_of_le_of_lt (Nat.sub_le _ _) t.isLt)).2.2.2 := by
  rw [outsAt0_C m c t h0 h1]
  frame_out
  simp only [read_unread_whole]
  exact storedI (iblk m c 0 t) (tab0 (iblk m c 1 t)) (tab1 (iblk m c 1 t)) (tab2 (iblk m c 1 t)) (tab3 (iblk m c 1 t)) _ _ _ _

/-- Last step: the loss of its rows is added and the sum scaled. -/
theorem sum_C : (outsAt0 m c t.val t.isLt).2.2.1
    = k0_pay6 (addf (outsAt0 m c (t.val - 1) (Nat.lt_of_le_of_lt (Nat.sub_le _ _) t.isLt)).2.2.1
      (broadcast S1x1 (outS (iblk m c 0 t) (iblk m c 1 t)
        (outsAt0 m c (t.val - 1) (Nat.lt_of_le_of_lt (Nat.sub_le _ _) t.isLt)).2.2.2))) := by
  rw [outsAt0_C m c t h0 h1]
  frame_out
  simp only [read_unread_whole]
  exact congrArg k0_pay6 (storedS (iblk m c 0 t) (tab0 (iblk m c 1 t)) (tab1 (iblk m c 1 t)) (tab2 (iblk m c 1 t)) (tab3 (iblk m c 1 t)) _ _ _ _ _)

end C

end Cert.KernelIdeal.Level

end
-- ==== Proof.KCarry.lean ====
/-
  What every grid point leaves, over the contents of the arrays the kernel reads: the norms kept are those of
  the codes at every point, and the sum grows by one block at a time.
-/
module

public import proofs.«01_k».proof.Proof.KPoint
public import Idealize.ShloMosaic.Lib.Pipeline.ValueKit.Point

@[expose] public section

set_option maxRecDepth 16384

noncomputable section

namespace Cert.KernelIdeal.Level

open Idealize.ShloMosaic Idealize.ShloMosaic.TcCoe Idealize.SL.Sem Cert.KernelIdeal Cert.KernelIdeal.Gen
open Idealize.ShloMosaic.Pipeline (Dat)
open Cert.Nearest Cert.Spec

variable (m : (ℓ : Loc nD τ sig) → Buf (Elt Ideal) ℓ)

/-- The grid has nine steps. -/
theorem points : cfg0.N = 9 := (by decide +kernel : grid0.N = 9)

/-- Which block each array shows at a grid step. -/
theorem idx : ∀ t : Fin cfg0.N, win0_0.index t = ![t.val, 0] ∧ win0_1.index t = ![0, 0] ∧ win0_2.index t = ![t.val, 0]
    ∧ win0_3.index t = ![0, t.val] ∧ win0_4.index t = ![0, 0] :=
  (by decide +kernel : ∀ t : Fin grid0.N, _)

/-- The rows and the stack of codes the kernel reads. -/
def rowsIn (c : Dev nD) : FVec Ideal S9216x64 .f32 := V m c main_v0
/-- The four tables, one above the other, as the call receives them. -/
def codesIn (c : Dev nD) : FVec Ideal S4096x64 .f32 := V m c main_v1

/-- The number of row `r` of block `t` among all rows. -/
def nth (t : Fin cfg0.N) (r : Fin 1024) : Fin 9216 := ⟨t.val * 1024 + r.val, by have := t.isLt; have := points; omega⟩

/-- An element of the input block of a grid step. -/
theorem block_rows (c : Dev nD) (t : Fin cfg0.N) (r : Fin 1024) (k : Fin 64) :
    iblk m c 0 t (ix2 r k) = rowsIn m c (ix2 (nth t r) k) := by
  unfold rowsIn nth
  blk_ext [iblk, idx t]

/-- The block of the tables is all of them at every step. -/
theorem block_codes (c : Dev nD) (t : Fin cfg0.N) : iblk m c 1 t = codesIn m c := by
  unfold codesIn
  blk_ext! [iblk, idx t]

/-- An element of one row of the norms, for each of the four rows. -/
theorem nrm0_apply (S : FVec Ideal S4x1024 .f32) (j : Fin 1024) : nrm0 S (ix2 0 j) = S (ix2 0 j) := by
  unfold nrm0
  exact congrArg S (funext fun a => Fin.ext (by fin_cases a; exacts [rfl, (by show 0 + 1 * j.val = j.val; omega)]))

theorem nrm1_apply (S : FVec Ideal S4x1024 .f32) (j : Fin 1024) : nrm1 S (ix2 0 j) = S (ix2 1 j) := by
  unfold nrm1
  exact congrArg S (funext fun a => Fin.ext (by fin_cases a; exacts [rfl, (by show 0 + 1 * j.val = j.val; omega)]))

theorem nrm2_apply (S : FVec Ideal S4x1024 .f32) (j : Fin 1024) : nrm2 S (ix2 0 j) = S (ix2 2 j) := by
  unfold nrm2
  exact congrArg S (funext fun a => Fin.ext (by fin_cases a; exacts [rfl, (by show 0 + 1 * j.val = j.val; omega)]))

theorem nrm3_apply (S : FVec Ideal S4x1024 .f32) (j : Fin 1024) : nrm3 S (ix2 0 j) = S (ix2 3 j) := by
  unfold nrm3
  exact congrArg S (funext fun a => Fin.ext (by fin_cases a; exacts [rfl, (by show 0 + 1 * j.val = j.val; omega)]))

section Norms
variable (X : FVec Ideal S4096x64 .f32)

/-- The rows of the scratch array are the norms of the tables. -/
theorem isNorms0 : IsNorms (tab0 X) (nrm0 (norms X)) := fun j => (nrm0_apply _ j).trans (norms_apply _ _ _ _ 0 j)
theorem isNorms1 : IsNorms (tab1 X) (nrm1 (norms X)) := fun j => (nrm1_apply _ j).trans (norms_apply _ _ _ _ 1 j)
theorem isNorms2 : IsNorms (tab2 X) (nrm2 (norms X)) := fun j => (nrm2_apply _ j).trans (norms_apply _ _ _ _ 2 j)
theorem isNorms3 : IsNorms (tab3 X) (nrm3 (norms X)) := fun j => (nrm3_apply _ j).trans (norms_apply _ _ _ _ 3 j)

/-- An element of the quantized block of a step, by its row. -/
theorem outQ_apply (x : Rows) (r : Fin 1024) (k : Fin 64) : outQ x X (norms X) (ix2 r k)
    = out (row x r) (row (tab0 X)) (row (tab1 X)) (row (tab2 X)) (row (tab3 X)) k :=
  blockQ_apply (isNorms0 X) (isNorms1 X) (isNorms2 X) (isNorms3 X) r k

/-- An element of the index block of a step, by its row. -/
theorem outI_apply (x : Rows) (l : Fin 4) (r : Fin 1024) : outI x X (norms X) (ix2 l r)
    = BitVec.ofNat 32 (code (row x r) (row (tab0 X)) (row (tab1 X)) (row (tab2 X)) (row (tab3 X)) l).val :=
  blockI_apply (isNorms0 X) (isNorms1 X) (isNorms2 X) (isNorms3 X) l r

/-- The loss of a step, as a sum over its rows. -/
theorem outS_eq (x : Rows) : outS x X (norms X)
    = ∑ r : Fin 1024, errs (row x r) (row (tab0 X)) (row (tab1 X)) (row (tab2 X)) (row (tab3 X)) :=
  blockS_eq (isNorms0 X) (isNorms1 X) (isNorms2 X) (isNorms3 X)

end Norms

/-- The norms kept are those of the codes, at every point. -/
theorem scratch_eq (c : Dev nD) : ∀ (n : ℕ) (hn : n < cfg0.N), (outsAt0 m c n hn).2.2.2 = norms (codesIn m c)
  | 0, hn => by
    have h := scratch_A m c ⟨0, hn⟩ (by rfl) (by dsimp only; omega)
    rw [block_codes] at h
    exact h
  | n + 1, hn => by
    have hN := points
    have h0 : ¬(n + 1) % 9 = 0 := by omega
    by_cases h1 : (n + 1) % 9 = 8
    · exact (scratch_C m c ⟨n + 1, hn⟩ h0 h1).trans (scratch_eq c n _)
    · exact (scratch_B m c ⟨n + 1, hn⟩ h0 h1).trans (scratch_eq c n _)

/-- What every grid step writes as its quantized block. -/
theorem quant_eq (c : Dev nD) (t : Fin cfg0.N) :
    (outsAt0 m c t.val t.isLt).1 = outQ (iblk m c 0 t) (codesIn m c) (norms (codesIn m c)) := by
  by_cases h0 : t.val % 9 = 0
  · have h := quant_A m c t h0 (by omega)
    rw [block_codes] at h
    exact h
  · by_cases h1 : t.val % 9 = 8
    · have h := quant_C m c t h0 h1
      rw [block_codes, scratch_eq] at h
      exact h
    · have h := quant_B m c t h0 h1
      rw [block_codes, scratch_eq] at h
      exact h

/-- What every grid step writes as its index block. -/
theorem index_eq (c : Dev nD) (t : Fin cfg0.N) :
    (outsAt0 m c t.val t.isLt).2.1 = outI (iblk m c 0 t) (codesIn m c) (norms (codesIn m c)) := by
  by_cases h0 : t.val % 9 = 0
  · have h := index_A m c t h0 (by omega)
    rw [block_codes] at h
    exact h
  · by_cases h1 : t.val % 9 = 8
    · have h := index_C m c t h0 h1
      rw [block_codes, scratch_eq] at h
      exact h
    · have h := index_B m c t h0 h1
      rw [block_codes, scratch_eq] at h
      exact h

/-- The squared errors of the rows of one block. -/
def blockErr (c : Dev nD) (t : Fin cfg0.N) : EReal := outS (iblk m c 0 t) (codesIn m c) (norms (codesIn m c))

/-- The running sum, up to the point before the last. -/
theorem sum_eq (c : Dev nD) : ∀ (n : ℕ) (hn : n < cfg0.N), n < 8 → ∀ i : S1x1.Idx,
    (outsAt0 m c n hn).2.2.1 i = ∑ s : Fin (n + 1), blockErr m c ⟨s.val, Nat.lt_of_le_of_lt (Nat.lt_succ_iff.1 s.isLt) hn⟩
  | 0, hn, _, i => by
    have h := sum_A m c ⟨0, hn⟩ (by rfl) (by dsimp only; omega)
    rw [block_codes] at h
    rw [h, Fin.sum_univ_one]
    show Ideal.ofBits .f32 0x00000000#32 + _ = _
    have z : Ideal.ofBits .f32 0x00000000#32 = 0 := by simp [Ideal.ofBits_zero]
    rw [z, zero_add]; rfl
  | n + 1, hn, hlt, i => by
    have h := sum_B m c ⟨n + 1, hn⟩ (by dsimp only; omega) (by dsimp only; omega)
    rw [block_codes, scratch_eq] at h
    rw [h, Fin.sum_univ_castSucc]
    show (outsAt0 m c n _).2.2.1 i + _ = _
    rw [sum_eq c n _ (by omega) i]
    rfl

/-- The last point scales the whole sum. -/
theorem total_eq (c : Dev nD) (t : Fin cfg0.N) (ht : t.val = 8) (i : S1x1.Idx) :
    (outsAt0 m c t.val t.isLt).2.2.1 i = (∑ s : Fin cfg0.N, blockErr m c s) * ((1 / 2359296 : ℝ) : EReal) := by
  have h := sum_C m c t (by omega) (by omega)
  rw [block_codes, scratch_eq] at h
  rw [h]
  unfold k0_pay6
  rw [shapeCast_id]
  show ((outsAt0 m c (t.val - 1) _).2.2.1 i + blockErr m c t) * ((1 / 2359296 : ℝ) : EReal) = _
  congr 1
  rw [sum_eq m c (t.val - 1) _ (by omega) i]
  obtain ⟨n, hn⟩ := t
  subst ht
  exact (Fin.sum_univ_castSucc fun s : Fin 9 => blockErr m c s).symm

end Cert.KernelIdeal.Level

end
-- ==== Proof.KArray.lean ====
/-
  The arrays the kernel leaves, row by row, over the arguments.
-/
module

public import proofs.«01_k».proof.Proof.KCarry

@[expose] public section

set_option maxRecDepth 16384

noncomputable section

namespace Cert.KernelIdeal.Level

open Idealize.ShloMosaic Idealize.ShloMosaic.TcCoe Idealize.SL.Sem Cert.KernelIdeal Cert.KernelIdeal.Gen
open Idealize.ShloMosaic.Pipeline (Dat)
open Cert.Nearest Cert.Spec

variable (m : (ℓ : Loc nD τ sig) → Buf (Elt Ideal) ℓ)

section Tables
variable (c : Dev nD)

/-- The rows read are those of the first argument. -/
theorem rowsIn_eq : rowsIn m c = shapeCast S9216x64 (m ((c : Thread nD τ).loc main_arg0) : FVec Ideal S16x576x64 .f32) Gen.facts.shapeCasts_S16x576x64_S9216x64 := by
  unfold rowsIn
  entry_read
  rfl

/-- The codes read are the four tables in turn. -/
theorem codesIn_eq : codesIn m c = concatenate S4096x64 0
    [⟨S1024x64, (m ((c : Thread nD τ).loc main_arg1) : FVec Ideal S1024x64 .f32)⟩, ⟨S1024x64, (m ((c : Thread nD τ).loc main_arg2) : FVec Ideal S1024x64 .f32)⟩,
      ⟨S1024x64, (m ((c : Thread nD τ).loc main_arg3) : FVec Ideal S1024x64 .f32)⟩, ⟨S1024x64, (m ((c : Thread nD τ).loc main_arg4) : FVec Ideal S1024x64 .f32)⟩]
    Gen.facts.concatenates_S1024x64_S1024x64_S1024x64_S1024x64_S4096x64_d0 := by
  unfold codesIn
  entry_read
  rfl

end Tables

section Arrays
variable (c : Dev nD)

/-- The quantized rows and the indices, over the arrays read. -/
def allQ : FVec Ideal S9216x64 .f32 := fun i =>
  out (row (rowsIn m c) (i 0)) (row (tab0 (codesIn m c))) (row (tab1 (codesIn m c))) (row (tab2 (codesIn m c))) (row (tab3 (codesIn m c))) (i 1)

/-- The index array: the code of every row at every level. -/
def allI : IVec S4x9216 32 := fun i =>
  BitVec.ofNat 32 (code (row (rowsIn m c) (i 1)) (row (tab0 (codesIn m c))) (row (tab1 (codesIn m c))) (row (tab2 (codesIn m c))) (row (tab3 (codesIn m c))) (i 0)).val

/-- A row of the block of a grid step is a row of the whole input. -/
theorem block_row (t : Fin cfg0.N) (r : Fin 1024) : row (iblk m c 0 t : Rows) r = row (rowsIn m c) (nth t r) :=
  funext fun k => block_rows m c t r k

/-- After the last grid step the first output is the quantized array. -/
theorem quant_array : (dats m 0 c).arrAt 2 cfg0.N = allQ m c := by
  refine (dats m 0 c).arrAt_eq_of_covers 2 _ (by decide +kernel) fun t _ y => ?_
  blk_simp
  rw [after0_2, quant_eq]
  obtain ⟨r, k, rfl⟩ : ∃ (r : Fin 1024) (k : Fin 64), y = ix2 r k := ⟨y 0, y 1, by blk_ext⟩
  rw [outQ_apply, block_row]
  have e : ((cfg0.win 2).blk t).view.emb (ix2 r k) = (ix2 (nth t r) k : S9216x64.Idx) := by
    unfold nth
    blk_ext [idx t]
  rw [e]
  rfl

/-- After the last grid step the second output is the index array. -/
theorem index_array : (dats m 0 c).arrAt 3 cfg0.N = allI m c := by
  refine (dats m 0 c).arrAt_eq_of_covers 3 _ (by decide +kernel) fun t _ y => ?_
  blk_simp
  rw [after0_3, index_eq]
  obtain ⟨l, r, rfl⟩ : ∃ (l : Fin 4) (r : Fin 1024), y = ix2 l r := ⟨y 0, y 1, by blk_ext⟩
  rw [outI_apply, block_row]
  have e : ((cfg0.win 3).blk t).view.emb (ix2 l r) = (ix2 l (nth t r) : S4x9216.Idx) := by
    unfold nth
    blk_ext [idx t]
  rw [e]
  rfl

/-- After the last grid step the third output is the scaled sum of the errors of all blocks. -/
theorem total_array : (dats m 0 c).arrAt 4 cfg0.N
    = fun _ => (∑ s : Fin cfg0.N, blockErr m c s) * ((1 / 2359296 : ℝ) : EReal) := by
  refine (dats m 0 c).arrAt_eq_of_after_last 4 t0_8 (by decide +kernel) _ fun j => ?_
  blk_simp
  rw [after0_4]
  exact total_eq m c t0_8 rfl j

end Arrays

end Cert.KernelIdeal.Level

end
-- ==== Proof.RefLine.lean ====
/-
  The reference as a line of host operations, cut where one quantizer level ends and the next begins.
-/
module

public import proofs.«01_k».proof.ReferenceIdeal
public import proofs.«01_k».proof.Proof.Gen.ReferenceIdeal
public import Idealize.ShloMosaic.PureOps.Ideal.Laws
public import Idealize.ShloMosaic.Adequacy
public import Idealize.ShloMosaic.Init
public import Idealize.ShloMosaic.Lib.StableHlo.RunHlo
public import Idealize.ShloMosaic.Lib.Claim

@[expose] public section

set_option maxRecDepth 16384

noncomputable section

namespace Cert.ReferenceIdeal.Line

open Idealize.ShloMosaic Idealize.ShloMosaic.TcCoe Idealize.SL.Sem Cert.ReferenceIdeal Facts₀ Facts

/-- The operations before the first level: the zero total and the flattened input. -/
def lineHead : List (HloOp τ sig (Elt Ideal)) :=
  [ StableHlo.nullary main_cst (constant (F := Ideal) S_ .f32 0x00000000#32),
    StableHlo.unary main_cst main_v0 (broadcastInDim S16x576x64 ![] bcast_S_S16x576x64 : (⟨S_, .f32⟩ : BufTy).Contents (Elt Ideal) → (⟨S16x576x64, .f32⟩ : BufTy).Contents (Elt Ideal)),
    StableHlo.reshape main_arg0 main_v1 (rfl : (.f32 : EltTy) = .f32) shapeCasts_S16x576x64_S9216x64 ]

/-- Level 0: the distances and the index of the nearest code. -/
def lineSearch0 : List (HloOp τ sig (Elt Ideal)) :=
  [ StableHlo.binary main_v1 main_v1 main_v2 (mulf (F := Ideal) (φ := .f32) : (⟨S9216x64, .f32⟩ : BufTy).Contents (Elt Ideal) → (⟨S9216x64, .f32⟩ : BufTy).Contents (Elt Ideal) → (⟨S9216x64, .f32⟩ : BufTy).Contents (Elt Ideal)),
    StableHlo.nullary main_cst_0 (constant (F := Ideal) S_ .f32 0x00000000#32),
    StableHlo.binary main_v2 main_cst_0 main_v3 ((fun x v => Host.reduceAdd (F := Ideal) (φ := .f32) x v reducesTo_S9216x64_S9216_d1 h_S_) : (⟨S9216x64, .f32⟩ : BufTy).Contents (Elt Ideal) → (⟨S_, .f32⟩ : BufTy).Contents (Elt Ideal) → (⟨S9216, .f32⟩ : BufTy).Contents (Elt Ideal)),
    StableHlo.unary main_v3 main_v4 (broadcastInDim S9216x1 ![0] bcast_S9216_S9216x1_0 : (⟨S9216, .f32⟩ : BufTy).Contents (Elt Ideal) → (⟨S9216x1, .f32⟩ : BufTy).Contents (Elt Ideal)),
    StableHlo.binary main_arg1 main_arg1 main_v5 (mulf (F := Ideal) (φ := .f32) : (⟨S1024x64, .f32⟩ : BufTy).Contents (Elt Ideal) → (⟨S1024x64, .f32⟩ : BufTy).Contents (Elt Ideal) → (⟨S1024x64, .f32⟩ : BufTy).Contents (Elt Ideal)),
    StableHlo.nullary main_cst_1 (constant (F := Ideal) S_ .f32 0x00000000#32),
    StableHlo.binary main_v5 main_cst_1 main_v6 ((fun x v => Host.reduceAdd (F := Ideal) (φ := .f32) x v reducesTo_S1024x64_S1024_d1 h_S_) : (⟨S1024x64, .f32⟩ : BufTy).Contents (Elt Ideal) → (⟨S_, .f32⟩ : BufTy).Contents (Elt Ideal) → (⟨S1024, .f32⟩ : BufTy).Contents (Elt Ideal)),
    StableHlo.unary main_v6 main_v7 (broadcastInDim S1x1024 ![1] bcast_S1024_S1x1024_1 : (⟨S1024, .f32⟩ : BufTy).Contents (Elt Ideal) → (⟨S1x1024, .f32⟩ : BufTy).Contents (Elt Ideal)),
    StableHlo.unary main_v4 main_v8 (broadcastInDim S9216x1024 ![0, 1] bcast_S9216x1_S9216x1024_0_1 : (⟨S9216x1, .f32⟩ : BufTy).Contents (Elt Ideal) → (⟨S9216x1024, .f32⟩ : BufTy).Contents (Elt Ideal)),
    StableHlo.unary main_v7 main_v9 (broadcastInDim S9216x1024 ![0, 1] bcast_S1x1024_S9216x1024_0_1 : (⟨S1x1024, .f32⟩ : BufTy).Contents (Elt Ideal) → (⟨S9216x1024, .f32⟩ : BufTy).Contents (Elt Ideal)),
    StableHlo.binary main_v8 main_v9 main_v10 (addf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.unary main_arg1 main_v11 ((transpose S64x1024 [1, 0] · transposes_S1024x64_S64x1024_1_0) : (⟨S1024x64, .f32⟩ : BufTy).Contents (Elt Ideal) → (⟨S64x1024, .f32⟩ : BufTy).Contents (Elt Ideal)),
    StableHlo.binary main_v1 main_v11 main_v12 ((fun l r => Host.dotGeneral (F := Ideal) (φ₁ := .f32) (φ₂ := .f32) dot_S9216x64_S64x1024_S9216x1024_1_0_0_1_n_n none l r) : (⟨S9216x64, .f32⟩ : BufTy).Contents (Elt Ideal) → (⟨S64x1024, .f32⟩ : BufTy).Contents (Elt Ideal) → (⟨S9216x1024, .f32⟩ : BufTy).Contents (Elt Ideal)),
    StableHlo.nullary main_cst_2 (constant (F := Ideal) S_ .f32 0x40000000#32),
    StableHlo.unary main_cst_2 main_v13 (broadcastInDim S9216x1024 ![] bcast_S_S9216x1024 : (⟨S_, .f32⟩ : BufTy).Contents (Elt Ideal) → (⟨S9216x1024, .f32⟩ : BufTy).Contents (Elt Ideal)),
    StableHlo.binary main_v13 main_v12 main_v14 (mulf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.binary main_v10 main_v14 main_v15 (subf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.nullary main_call0_v0 ((iotaInDim S9216x1024 32 1) : (⟨S9216x1024, .i32⟩ : BufTy).Contents (Elt Ideal)),
    StableHlo.nullary main_call0_cst ((constant (F := Ideal) S_ .f32 0x7F800000#32) : (⟨S_, .f32⟩ : BufTy).Contents (Elt Ideal)),
    StableHlo.nullary main_call0_c ((constantI S_ 32 0#32) : (⟨S_, .i32⟩ : BufTy).Contents (Elt Ideal)),
    StableHlo.quaternary main_v15 main_call0_v0 main_call0_cst main_call0_c main_call0_v1_0 ((fun x y u v j => (Host.argReduce (F := Ideal) reducer_argmin_f32_i32 x y u v reducesTo_S9216x1024_S9216_d1 h_S_ j).1) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .f32⟩ : BufTy).Contents (Elt Ideal)),
    StableHlo.quaternary main_v15 main_call0_v0 main_call0_cst main_call0_c main_v16 ((fun x y u v j => (Host.argReduce (F := Ideal) reducer_argmin_f32_i32 x y u v reducesTo_S9216x1024_S9216_d1 h_S_ j).2) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .i32⟩ : BufTy).Contents (Elt Ideal)) ]

/-- Level 0: the codes at the indices found. -/
def lineTake0 : List (HloOp τ sig (Elt Ideal)) :=
  [ StableHlo.nullary main_call1_c ((constantI S_ 32 0#32) : (⟨S_, .i32⟩ : BufTy).Contents (Elt Ideal)),
    StableHlo.unary main_call1_c main_call1_v0 ((broadcastInDim S9216 ![] bcast_S_S9216) : (⟨S_, .i32⟩ : BufTy).Contents (Elt Ideal) → (⟨S9216, .i32⟩ : BufTy).Contents (Elt Ideal)),
    StableHlo.binary main_v16 main_call1_v0 main_call1_v1 ((cmpi .slt) : (⟨S9216, .i32⟩ : BufTy).Contents (Elt Ideal) → (⟨S9216, .i32⟩ : BufTy).Contents (Elt Ideal) → (⟨S9216, .i1⟩ : BufTy).Contents (Elt Ideal)),
    StableHlo.nullary main_call1_c_0 ((constantI S_ 32 1024#32) : (⟨S_, .i32⟩ : BufTy).Contents (Elt Ideal)),
    StableHlo.unary main_call1_c_0 main_call1_v2 ((broadcastInDim S9216 ![] bcast_S_S9216) : (⟨S_, .i32⟩ : BufTy).Contents (Elt Ideal) → (⟨S9216, .i32⟩ : BufTy).Contents (Elt Ideal)),
    StableHlo.binary main_v16 main_call1_v2 main_call1_v3 (addi : (⟨S9216, .i32⟩ : BufTy).Contents (Elt Ideal) → (⟨S9216, .i32⟩ : BufTy).Contents (Elt Ideal) → (⟨S9216, .i32⟩ : BufTy).Contents (Elt Ideal)),
    StableHlo.ternary main_call1_v1 main_call1_v3 main_v16 main_call1_v4 (select : (⟨S9216, .i1⟩ : BufTy).Contents (Elt Ideal) → (⟨S9216, .i32⟩ : BufTy).Contents (Elt Ideal) → (⟨S9216, .i32⟩ : BufTy).Contents (Elt Ideal) → (⟨S9216, .i32⟩ : BufTy).Contents (Elt Ideal)),
    StableHlo.unary main_call1_v4 main_call1_v5 ((broadcastInDim S9216x1 ![0] bcast_S9216_S9216x1_0) : (⟨S9216, .i32⟩ : BufTy).Contents (Elt Ideal) → (⟨S9216x1, .i32⟩ : BufTy).Contents (Elt Ideal)),
    StableHlo.nullary main_call1_c_1 ((constantI S1 32 1023#32) : (⟨S1, .i32⟩ : BufTy).Contents (Elt Ideal)),
    StableHlo.nullary main_call1_c_2 ((constantI S_ 32 0#32) : (⟨S_, .i32⟩ : BufTy).Contents (Elt Ideal)),
    StableHlo.unary main_call1_c_2 main_call1_v6 ((broadcastInDim S9216x1 ![] bcast_S_S9216x1) : (⟨S_, .i32⟩ : BufTy).Contents (Elt Ideal) → (⟨S9216x1, .i32⟩ : BufTy).Contents (Elt Ideal)),
    StableHlo.binary main_call1_v5 main_call1_v6 main_call1_v7 ((cmpi .sge) : (⟨S9216x1, .i32⟩ : BufTy).Contents (Elt Ideal) → (⟨S9216x1, .i32⟩ : BufTy).Contents (Elt Ideal) → (⟨S9216x1, .i1⟩ : BufTy).Contents (Elt Ideal)),
    StableHlo.unary main_call1_c_1 main_call1_v8 ((broadcastInDim S1x1 ![1] bcast_S1_S1x1_1) : (⟨S1, .i32⟩ : BufTy).Contents (Elt Ideal) → (⟨S1x1, .i32⟩ : BufTy).Contents (Elt Ideal)),
    StableHlo.unary main_call1_v8 main_call1_v9 ((broadcastInDim S9216x1 ![0, 1] bcast_S1x1_S9216x1_0_1) : (⟨S1x1, .i32⟩ : BufTy).Contents (Elt Ideal) → (⟨S9216x1, .i32⟩ : BufTy).Contents (Elt Ideal)),
    StableHlo.binary main_call1_v5 main_call1_v9 main_call1_v10 ((cmpi .sle) : (⟨S9216x1, .i32⟩ : BufTy).Contents (Elt Ideal) → (⟨S9216x1, .i32⟩ : BufTy).Contents (Elt Ideal) → (⟨S9216x1, .i1⟩ : BufTy).Contents (Elt Ideal)),
    StableHlo.binary main_call1_v7 main_call1_v10 main_call1_v11 (andi : (⟨S9216x1, .i1⟩ : BufTy).Contents (Elt Ideal) → (⟨S9216x1, .i1⟩ : BufTy).Contents (Elt Ideal) → (⟨S9216x1, .i1⟩ : BufTy).Contents (Elt Ideal)),
    StableHlo.nullary main_call1_c_3 ((constantI S_ 1 1#1) : (⟨S_, .i1⟩ : BufTy).Contents (Elt Ideal)),
    StableHlo.binary main_call1_v11 main_call1_c_3 main_call1_v12 ((fun x v => Host.reduce IntOp.andi x v reducesTo_S9216x1_S9216_d1 h_S_) : (⟨S9216x1, .i1⟩ : BufTy).Contents (Elt Ideal) → (⟨S_, .i1⟩ : BufTy).Contents (Elt Ideal) → (⟨S9216, .i1⟩ : BufTy).Contents (Elt Ideal)),
    StableHlo.binary main_arg1 main_call1_v5 main_call1_v13 ((fun x i => Host.gather gather_S1024x64_S9216x1_S9216x64_1_0_n_n_0_1_164 x i) : (⟨S1024x64, .f32⟩ : BufTy).Contents (Elt Ideal) → (⟨S9216x1, .i32⟩ : BufTy).Contents (Elt Ideal) → (⟨S9216x64, .f32⟩ : BufTy).Contents (Elt Ideal)),
    StableHlo.unary main_call1_v12 main_call1_v14 ((broadcastInDim S9216x64 ![0] bcast_S9216_S9216x64_0) : (⟨S9216, .i1⟩ : BufTy).Contents (Elt Ideal) → (⟨S9216x64, .i1⟩ : BufTy).Contents (Elt Ideal)),
    StableHlo.nullary main_call1_cst ((constant (F := Ideal) S_ .f32 0x7FC00000#32) : (⟨S_, .f32⟩ : BufTy).Contents (Elt Ideal)),
    StableHlo.unary main_call1_cst main_call1_v15 ((broadcastInDim S9216x64 ![] bcast_S_S9216x64) : (⟨S_, .f32⟩ : BufTy).Contents (Elt Ideal) → (⟨S9216x64, .f32⟩ : BufTy).Contents (Elt Ideal)),
    StableHlo.ternary main_call1_v14 main_call1_v13 main_call1_v15 main_v17 (select : (⟨S9216x64, .i1⟩ : BufTy).Contents (Elt Ideal) → (⟨S9216x64, .f32⟩ : BufTy).Contents (Elt Ideal) → (⟨S9216x64, .f32⟩ : BufTy).Contents (Elt Ideal) → (⟨S9216x64, .f32⟩ : BufTy).Contents (Elt Ideal)) ]

/-- Level 0: the losses, the running totals and what is left to quantize. -/
def lineRest0 : List (HloOp τ sig (Elt Ideal)) :=
  [ StableHlo.reshape main_v17 main_v18 (rfl : (.f32 : EltTy) = .f32) shapeCasts_S9216x64_S16x576x64,
    StableHlo.binary main_v18 main_arg0 main_v19 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v19 main_v19 main_v20 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_3 (constant (F := Ideal) S_ .f32 0x00000000#32),
    StableHlo.binary main_v20 main_cst_3 main_v21 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_4 (constant (F := Ideal) S_ .f32 0x49100000#32),
    StableHlo.binary main_v21 main_cst_4 main_v22 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v18 main_arg0 main_v23 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v23 main_v23 main_v24 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_5 (constant (F := Ideal) S_ .f32 0x00000000#32),
    StableHlo.binary main_v24 main_cst_5 main_v25 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_6 (constant (F := Ideal) S_ .f32 0x49100000#32),
    StableHlo.binary main_v25 main_cst_6 main_v26 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.reshape main_v16 main_v27 (rfl : (.i32 : EltTy) = .i32) shapeCasts_S9216_S16x576,
    StableHlo.binary main_v0 main_v18 main_v28 (addf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_7 (constant (F := Ideal) S_ .f32 0x00000000#32),
    StableHlo.binary main_cst_7 main_v22 main_v29 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.nullary main_cst_8 (constant (F := Ideal) S_ .f32 0x00000000#32),
    StableHlo.binary main_cst_8 main_v26 main_v30 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_arg0 main_v18 main_v31 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.reshape main_v31 main_v32 (rfl : (.f32 : EltTy) = .f32) shapeCasts_S16x576x64_S9216x64 ]

/-- Level 1: the distances and the index of the nearest code. -/
def lineSearch1 : List (HloOp τ sig (Elt Ideal)) :=
  [ StableHlo.binary main_v32 main_v32 main_v33 (mulf (F := Ideal) (φ := .f32) : (⟨S9216x64, .f32⟩ : BufTy).Contents (Elt Ideal) → (⟨S9216x64, .f32⟩ : BufTy).Contents (Elt Ideal) → (⟨S9216x64, .f32⟩ : BufTy).Contents (Elt Ideal)),
    StableHlo.nullary main_cst_9 (constant (F := Ideal) S_ .f32 0x00000000#32),
    StableHlo.binary main_v33 main_cst_9 main_v34 ((fun x v => Host.reduceAdd (F := Ideal) (φ := .f32) x v reducesTo_S9216x64_S9216_d1 h_S_) : (⟨S9216x64, .f32⟩ : BufTy).Contents (Elt Ideal) → (⟨S_, .f32⟩ : BufTy).Contents (Elt Ideal) → (⟨S9216, .f32⟩ : BufTy).Contents (Elt Ideal)),
    StableHlo.unary main_v34 main_v35 (broadcastInDim S9216x1 ![0] bcast_S9216_S9216x1_0 : (⟨S9216, .f32⟩ : BufTy).Contents (Elt Ideal) → (⟨S9216x1, .f32⟩ : BufTy).Contents (Elt Ideal)),
    StableHlo.binary main_arg2 main_arg2 main_v36 (mulf (F := Ideal) (φ := .f32) : (⟨S1024x64, .f32⟩ : BufTy).Contents (Elt Ideal) → (⟨S1024x64, .f32⟩ : BufTy).Contents (Elt Ideal) → (⟨S1024x64, .f32⟩ : BufTy).Contents (Elt Ideal)),
    StableHlo.nullary main_cst_10 (constant (F := Ideal) S_ .f32 0x00000000#32),
    StableHlo.binary main_v36 main_cst_10 main_v37 ((fun x v => Host.reduceAdd (F := Ideal) (φ := .f32) x v reducesTo_S1024x64_S1024_d1 h_S_) : (⟨S1024x64, .f32⟩ : BufTy).Contents (Elt Ideal) → (⟨S_, .f32⟩ : BufTy).Contents (Elt Ideal) → (⟨S1024, .f32⟩ : BufTy).Contents (Elt Ideal)),
    StableHlo.unary main_v37 main_v38 (broadcastInDim S1x1024 ![1] bcast_S1024_S1x1024_1 : (⟨S1024, .f32⟩ : BufTy).Contents (Elt Ideal) → (⟨S1x1024, .f32⟩ : BufTy).Contents (Elt Ideal)),
    StableHlo.unary main_v35 main_v39 (broadcastInDim S9216x1024 ![0, 1] bcast_S9216x1_S9216x1024_0_1 : (⟨S9216x1, .f32⟩ : BufTy).Contents (Elt Ideal) → (⟨S9216x1024, .f32⟩ : BufTy).Contents (Elt Ideal)),
    StableHlo.unary main_v38 main_v40 (broadcastInDim S9216x1024 ![0, 1] bcast_S1x1024_S9216x1024_0_1 : (⟨S1x1024, .f32⟩ : BufTy).Contents (Elt Ideal) → (⟨S9216x1024, .f32⟩ : BufTy).Contents (Elt Ideal)),
    StableHlo.binary main_v39 main_v40 main_v41 (addf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.unary main_arg2 main_v42 ((transpose S64x1024 [1, 0] · transposes_S1024x64_S64x1024_1_0) : (⟨S1024x64, .f32⟩ : BufTy).Contents (Elt Ideal) → (⟨S64x1024, .f32⟩ : BufTy).Contents (Elt Ideal)),
    StableHlo.binary main_v32 main_v42 main_v43 ((fun l r => Host.dotGeneral (F := Ideal) (φ₁ := .f32) (φ₂ := .f32) dot_S9216x64_S64x1024_S9216x1024_1_0_0_1_n_n none l r) : (⟨S9216x64, .f32⟩ : BufTy).Contents (Elt Ideal) → (⟨S64x1024, .f32⟩ : BufTy).Contents (Elt Ideal) → (⟨S9216x1024, .f32⟩ : BufTy).Contents (Elt Ideal)),
    StableHlo.nullary main_cst_11 (constant (F := Ideal) S_ .f32 0x40000000#32),
    StableHlo.unary main_cst_11 main_v44 (broadcastInDim S9216x1024 ![] bcast_S_S9216x1024 : (⟨S_, .f32⟩ : BufTy).Contents (Elt Ideal) → (⟨S9216x1024, .f32⟩ : BufTy).Contents (Elt Ideal)),
    StableHlo.binary main_v44 main_v43 main_v45 (mulf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.binary main_v41 main_v45 main_v46 (subf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.nullary main_call2_v0 ((iotaInDim S9216x1024 32 1) : (⟨S9216x1024, .i32⟩ : BufTy).Contents (Elt Ideal)),
    StableHlo.nullary main_call2_cst ((constant (F := Ideal) S_ .f32 0x7F800000#32) : (⟨S_, .f32⟩ : BufTy).Contents (Elt Ideal)),
    StableHlo.nullary main_call2_c ((constantI S_ 32 0#32) : (⟨S_, .i32⟩ : BufTy).Contents (Elt Ideal)),
    StableHlo.quaternary main_v46 main_call2_v0 main_call2_cst main_call2_c main_call2_v1_0 ((fun x y u v j => (Host.argReduce (F := Ideal) reducer_argmin_f32_i32 x y u v reducesTo_S9216x1024_S9216_d1 h_S_ j).1) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .f32⟩ : BufTy).Contents (Elt Ideal)),
    StableHlo.quaternary main_v46 main_call2_v0 main_call2_cst main_call2_c main_v47 ((fun x y u v j => (Host.argReduce (F := Ideal) reducer_argmin_f32_i32 x y u v reducesTo_S9216x1024_S9216_d1 h_S_ j).2) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .i32⟩ : BufTy).Contents (Elt Ideal)) ]

/-- Level 1: the codes at the indices found. -/
def lineTake1 : List (HloOp τ sig (Elt Ideal)) :=
  [ StableHlo.nullary main_call3_c ((constantI S_ 32 0#32) : (⟨S_, .i32⟩ : BufTy).Contents (Elt Ideal)),
    StableHlo.unary main_call3_c main_call3_v0 ((broadcastInDim S9216 ![] bcast_S_S9216) : (⟨S_, .i32⟩ : BufTy).Contents (Elt Ideal) → (⟨S9216, .i32⟩ : BufTy).Contents (Elt Ideal)),
    StableHlo.binary main_v47 main_call3_v0 main_call3_v1 ((cmpi .slt) : (⟨S9216, .i32⟩ : BufTy).Contents (Elt Ideal) → (⟨S9216, .i32⟩ : BufTy).Contents (Elt Ideal) → (⟨S9216, .i1⟩ : BufTy).Contents (Elt Ideal)),
    StableHlo.nullary main_call3_c_0 ((constantI S_ 32 1024#32) : (⟨S_, .i32⟩ : BufTy).Contents (Elt Ideal)),
    StableHlo.unary main_call3_c_0 main_call3_v2 ((broadcastInDim S9216 ![] bcast_S_S9216) : (⟨S_, .i32⟩ : BufTy).Contents (Elt Ideal) → (⟨S9216, .i32⟩ : BufTy).Contents (Elt Ideal)),
    StableHlo.binary main_v47 main_call3_v2 main_call3_v3 (addi : (⟨S9216, .i32⟩ : BufTy).Contents (Elt Ideal) → (⟨S9216, .i32⟩ : BufTy).Contents (Elt Ideal) → (⟨S9216, .i32⟩ : BufTy).Contents (Elt Ideal)),
    StableHlo.ternary main_call3_v1 main_call3_v3 main_v47 main_call3_v4 (select : (⟨S9216, .i1⟩ : BufTy).Contents (Elt Ideal) → (⟨S9216, .i32⟩ : BufTy).Contents (Elt Ideal) → (⟨S9216, .i32⟩ : BufTy).Contents (Elt Ideal) → (⟨S9216, .i32⟩ : BufTy).Contents (Elt Ideal)),
    StableHlo.unary main_call3_v4 main_call3_v5 ((broadcastInDim S9216x1 ![0] bcast_S9216_S9216x1_0) : (⟨S9216, .i32⟩ : BufTy).Contents (Elt Ideal) → (⟨S9216x1, .i32⟩ : BufTy).Contents (Elt Ideal)),
    StableHlo.nullary main_call3_c_1 ((constantI S1 32 1023#32) : (⟨S1, .i32⟩ : BufTy).Contents (Elt Ideal)),
    StableHlo.nullary main_call3_c_2 ((constantI S_ 32 0#32) : (⟨S_, .i32⟩ : BufTy).Contents (Elt Ideal)),
    StableHlo.unary main_call3_c_2 main_call3_v6 ((broadcastInDim S9216x1 ![] bcast_S_S9216x1) : (⟨S_, .i32⟩ : BufTy).Contents (Elt Ideal) → (⟨S9216x1, .i32⟩ : BufTy).Contents (Elt Ideal)),
    StableHlo.binary main_call3_v5 main_call3_v6 main_call3_v7 ((cmpi .sge) : (⟨S9216x1, .i32⟩ : BufTy).Contents (Elt Ideal) → (⟨S9216x1, .i32⟩ : BufTy).Contents (Elt Ideal) → (⟨S9216x1, .i1⟩ : BufTy).Contents (Elt Ideal)),
    StableHlo.unary main_call3_c_1 main_call3_v8 ((broadcastInDim S1x1 ![1] bcast_S1_S1x1_1) : (⟨S1, .i32⟩ : BufTy).Contents (Elt Ideal) → (⟨S1x1, .i32⟩ : BufTy).Contents (Elt Ideal)),
    StableHlo.unary main_call3_v8 main_call3_v9 ((broadcastInDim S9216x1 ![0, 1] bcast_S1x1_S9216x1_0_1) : (⟨S1x1, .i32⟩ : BufTy).Contents (Elt Ideal) → (⟨S9216x1, .i32⟩ : BufTy).Contents (Elt Ideal)),
    StableHlo.binary main_call3_v5 main_call3_v9 main_call3_v10 ((cmpi .sle) : (⟨S9216x1, .i32⟩ : BufTy).Contents (Elt Ideal) → (⟨S9216x1, .i32⟩ : BufTy).Contents (Elt Ideal) → (⟨S9216x1, .i1⟩ : BufTy).Contents (Elt Ideal)),
    StableHlo.binary main_call3_v7 main_call3_v10 main_call3_v11 (andi : (⟨S9216x1, .i1⟩ : BufTy).Contents (Elt Ideal) → (⟨S9216x1, .i1⟩ : BufTy).Contents (Elt Ideal) → (⟨S9216x1, .i1⟩ : BufTy).Contents (Elt Ideal)),
    StableHlo.nullary main_call3_c_3 ((constantI S_ 1 1#1) : (⟨S_, .i1⟩ : BufTy).Contents (Elt Ideal)),
    StableHlo.binary main_call3_v11 main_call3_c_3 main_call3_v12 ((fun x v => Host.reduce IntOp.andi x v reducesTo_S9216x1_S9216_d1 h_S_) : (⟨S9216x1, .i1⟩ : BufTy).Contents (Elt Ideal) → (⟨S_, .i1⟩ : BufTy).Contents (Elt Ideal) → (⟨S9216, .i1⟩ : BufTy).Contents (Elt Ideal)),
    StableHlo.binary main_arg2 main_call3_v5 main_call3_v13 ((fun x i => Host.gather gather_S1024x64_S9216x1_S9216x64_1_0_n_n_0_1_164 x i) : (⟨S1024x64, .f32⟩ : BufTy).Contents (Elt Ideal) → (⟨S9216x1, .i32⟩ : BufTy).Contents (Elt Ideal) → (⟨S9216x64, .f32⟩ : BufTy).Contents (Elt Ideal)),
    StableHlo.unary main_call3_v12 main_call3_v14 ((broadcastInDim S9216x64 ![0] bcast_S9216_S9216x64_0) : (⟨S9216, .i1⟩ : BufTy).Contents (Elt Ideal) → (⟨S9216x64, .i1⟩ : BufTy).Contents (Elt Ideal)),
    StableHlo.nullary main_call3_cst ((constant (F := Ideal) S_ .f32 0x7FC00000#32) : (⟨S_, .f32⟩ : BufTy).Contents (Elt Ideal)),
    StableHlo.unary main_call3_cst main_call3_v15 ((broadcastInDim S9216x64 ![] bcast_S_S9216x64) : (⟨S_, .f32⟩ : BufTy).Contents (Elt Ideal) → (⟨S9216x64, .f32⟩ : BufTy).Contents (Elt Ideal)),
    StableHlo.ternary main_call3_v14 main_call3_v13 main_call3_v15 main_v48 (select : (⟨S9216x64, .i1⟩ : BufTy).Contents (Elt Ideal) → (⟨S9216x64, .f32⟩ : BufTy).Contents (Elt Ideal) → (⟨S9216x64, .f32⟩ : BufTy).Contents (Elt Ideal) → (⟨S9216x64, .f32⟩ : BufTy).Contents (Elt Ideal)) ]

/-- Level 1: the losses, the running totals and what is left to quantize. -/
def lineRest1 : List (HloOp τ sig (Elt Ideal)) :=
  [ StableHlo.reshape main_v48 main_v49 (rfl : (.f32 : EltTy) = .f32) shapeCasts_S9216x64_S16x576x64,
    StableHlo.binary main_v49 main_v31 main_v50 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v50 main_v50 main_v51 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_12 (constant (F := Ideal) S_ .f32 0x00000000#32),
    StableHlo.binary main_v51 main_cst_12 main_v52 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_13 (constant (F := Ideal) S_ .f32 0x49100000#32),
    StableHlo.binary main_v52 main_cst_13 main_v53 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v49 main_v31 main_v54 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v54 main_v54 main_v55 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_14 (constant (F := Ideal) S_ .f32 0x00000000#32),
    StableHlo.binary main_v55 main_cst_14 main_v56 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_15 (constant (F := Ideal) S_ .f32 0x49100000#32),
    StableHlo.binary main_v56 main_cst_15 main_v57 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.reshape main_v47 main_v58 (rfl : (.i32 : EltTy) = .i32) shapeCasts_S9216_S16x576,
    StableHlo.binary main_v28 main_v49 main_v59 (addf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v29 main_v53 main_v60 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v30 main_v57 main_v61 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v31 main_v49 main_v62 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.reshape main_v62 main_v63 (rfl : (.f32 : EltTy) = .f32) shapeCasts_S16x576x64_S9216x64 ]

/-- Level 2: the distances and the index of the nearest code. -/
def lineSearch2 : List (HloOp τ sig (Elt Ideal)) :=
  [ StableHlo.binary main_v63 main_v63 main_v64 (mulf (F := Ideal) (φ := .f32) : (⟨S9216x64, .f32⟩ : BufTy).Contents (Elt Ideal) → (⟨S9216x64, .f32⟩ : BufTy).Contents (Elt Ideal) → (⟨S9216x64, .f32⟩ : BufTy).Contents (Elt Ideal)),
    StableHlo.nullary main_cst_16 (constant (F := Ideal) S_ .f32 0x00000000#32),
    StableHlo.binary main_v64 main_cst_16 main_v65 ((fun x v => Host.reduceAdd (F := Ideal) (φ := .f32) x v reducesTo_S9216x64_S9216_d1 h_S_) : (⟨S9216x64, .f32⟩ : BufTy).Contents (Elt Ideal) → (⟨S_, .f32⟩ : BufTy).Contents (Elt Ideal) → (⟨S9216, .f32⟩ : BufTy).Contents (Elt Ideal)),
    StableHlo.unary main_v65 main_v66 (broadcastInDim S9216x1 ![0] bcast_S9216_S9216x1_0 : (⟨S9216, .f32⟩ : BufTy).Contents (Elt Ideal) → (⟨S9216x1, .f32⟩ : BufTy).Contents (Elt Ideal)),
    StableHlo.binary main_arg3 main_arg3 main_v67 (mulf (F := Ideal) (φ := .f32) : (⟨S1024x64, .f32⟩ : BufTy).Contents (Elt Ideal) → (⟨S1024x64, .f32⟩ : BufTy).Contents (Elt Ideal) → (⟨S1024x64, .f32⟩ : BufTy).Contents (Elt Ideal)),
    StableHlo.nullary main_cst_17 (constant (F := Ideal) S_ .f32 0x00000000#32),
    StableHlo.binary main_v67 main_cst_17 main_v68 ((fun x v => Host.reduceAdd (F := Ideal) (φ := .f32) x v reducesTo_S1024x64_S1024_d1 h_S_) : (⟨S1024x64, .f32⟩ : BufTy).Contents (Elt Ideal) → (⟨S_, .f32⟩ : BufTy).Contents (Elt Ideal) → (⟨S1024, .f32⟩ : BufTy).Contents (Elt Ideal)),
    StableHlo.unary main_v68 main_v69 (broadcastInDim S1x1024 ![1] bcast_S1024_S1x1024_1 : (⟨S1024, .f32⟩ : BufTy).Contents (Elt Ideal) → (⟨S1x1024, .f32⟩ : BufTy).Contents (Elt Ideal)),
    StableHlo.unary main_v66 main_v70 (broadcastInDim S9216x1024 ![0, 1] bcast_S9216x1_S9216x1024_0_1 : (⟨S9216x1, .f32⟩ : BufTy).Contents (Elt Ideal) → (⟨S9216x1024, .f32⟩ : BufTy).Contents (Elt Ideal)),
    StableHlo.unary main_v69 main_v71 (broadcastInDim S9216x1024 ![0, 1] bcast_S1x1024_S9216x1024_0_1 : (⟨S1x1024, .f32⟩ : BufTy).Contents (Elt Ideal) → (⟨S9216x1024, .f32⟩ : BufTy).Contents (Elt Ideal)),
    StableHlo.binary main_v70 main_v71 main_v72 (addf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.unary main_arg3 main_v73 ((transpose S64x1024 [1, 0] · transposes_S1024x64_S64x1024_1_0) : (⟨S1024x64, .f32⟩ : BufTy).Contents (Elt Ideal) → (⟨S64x1024, .f32⟩ : BufTy).Contents (Elt Ideal)),
    StableHlo.binary main_v63 main_v73 main_v74 ((fun l r => Host.dotGeneral (F := Ideal) (φ₁ := .f32) (φ₂ := .f32) dot_S9216x64_S64x1024_S9216x1024_1_0_0_1_n_n none l r) : (⟨S9216x64, .f32⟩ : BufTy).Contents (Elt Ideal) → (⟨S64x1024, .f32⟩ : BufTy).Contents (Elt Ideal) → (⟨S9216x1024, .f32⟩ : BufTy).Contents (Elt Ideal)),
    StableHlo.nullary main_cst_18 (constant (F := Ideal) S_ .f32 0x40000000#32),
    StableHlo.unary main_cst_18 main_v75 (broadcastInDim S9216x1024 ![] bcast_S_S9216x1024 : (⟨S_, .f32⟩ : BufTy).Contents (Elt Ideal) → (⟨S9216x1024, .f32⟩ : BufTy).Contents (Elt Ideal)),
    StableHlo.binary main_v75 main_v74 main_v76 (mulf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.binary main_v72 main_v76 main_v77 (subf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.nullary main_call4_v0 ((iotaInDim S9216x1024 32 1) : (⟨S9216x1024, .i32⟩ : BufTy).Contents (Elt Ideal)),
    StableHlo.nullary main_call4_cst ((constant (F := Ideal) S_ .f32 0x7F800000#32) : (⟨S_, .f32⟩ : BufTy).Contents (Elt Ideal)),
    StableHlo.nullary main_call4_c ((constantI S_ 32 0#32) : (⟨S_, .i32⟩ : BufTy).Contents (Elt Ideal)),
    StableHlo.quaternary main_v77 main_call4_v0 main_call4_cst main_call4_c main_call4_v1_0 ((fun x y u v j => (Host.argReduce (F := Ideal) reducer_argmin_f32_i32 x y u v reducesTo_S9216x1024_S9216_d1 h_S_ j).1) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .f32⟩ : BufTy).Contents (Elt Ideal)),
    StableHlo.quaternary main_v77 main_call4_v0 main_call4_cst main_call4_c main_v78 ((fun x y u v j => (Host.argReduce (F := Ideal) reducer_argmin_f32_i32 x y u v reducesTo_S9216x1024_S9216_d1 h_S_ j).2) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .i32⟩ : BufTy).Contents (Elt Ideal)) ]

/-- Level 2: the codes at the indices found. -/
def lineTake2 : List (HloOp τ sig (Elt Ideal)) :=
  [ StableHlo.nullary main_call5_c ((constantI S_ 32 0#32) : (⟨S_, .i32⟩ : BufTy).Contents (Elt Ideal)),
    StableHlo.unary main_call5_c main_call5_v0 ((broadcastInDim S9216 ![] bcast_S_S9216) : (⟨S_, .i32⟩ : BufTy).Contents (Elt Ideal) → (⟨S9216, .i32⟩ : BufTy).Contents (Elt Ideal)),
    StableHlo.binary main_v78 main_call5_v0 main_call5_v1 ((cmpi .slt) : (⟨S9216, .i32⟩ : BufTy).Contents (Elt Ideal) → (⟨S9216, .i32⟩ : BufTy).Contents (Elt Ideal) → (⟨S9216, .i1⟩ : BufTy).Contents (Elt Ideal)),
    StableHlo.nullary main_call5_c_0 ((constantI S_ 32 1024#32) : (⟨S_, .i32⟩ : BufTy).Contents (Elt Ideal)),
    StableHlo.unary main_call5_c_0 main_call5_v2 ((broadcastInDim S9216 ![] bcast_S_S9216) : (⟨S_, .i32⟩ : BufTy).Contents (Elt Ideal) → (⟨S9216, .i32⟩ : BufTy).Contents (Elt Ideal)),
    StableHlo.binary main_v78 main_call5_v2 main_call5_v3 (addi : (⟨S9216, .i32⟩ : BufTy).Contents (Elt Ideal) → (⟨S9216, .i32⟩ : BufTy).Contents (Elt Ideal) → (⟨S9216, .i32⟩ : BufTy).Contents (Elt Ideal)),
    StableHlo.ternary main_call5_v1 main_call5_v3 main_v78 main_call5_v4 (select : (⟨S9216, .i1⟩ : BufTy).Contents (Elt Ideal) → (⟨S9216, .i32⟩ : BufTy).Contents (Elt Ideal) → (⟨S9216, .i32⟩ : BufTy).Contents (Elt Ideal) → (⟨S9216, .i32⟩ : BufTy).Contents (Elt Ideal)),
    StableHlo.unary main_call5_v4 main_call5_v5 ((broadcastInDim S9216x1 ![0] bcast_S9216_S9216x1_0) : (⟨S9216, .i32⟩ : BufTy).Contents (Elt Ideal) → (⟨S9216x1, .i32⟩ : BufTy).Contents (Elt Ideal)),
    StableHlo.nullary main_call5_c_1 ((constantI S1 32 1023#32) : (⟨S1, .i32⟩ : BufTy).Contents (Elt Ideal)),
    StableHlo.nullary main_call5_c_2 ((constantI S_ 32 0#32) : (⟨S_, .i32⟩ : BufTy).Contents (Elt Ideal)),
    StableHlo.unary main_call5_c_2 main_call5_v6 ((broadcastInDim S9216x1 ![] bcast_S_S9216x1) : (⟨S_, .i32⟩ : BufTy).Contents (Elt Ideal) → (⟨S9216x1, .i32⟩ : BufTy).Contents (Elt Ideal)),
    StableHlo.binary main_call5_v5 main_call5_v6 main_call5_v7 ((cmpi .sge) : (⟨S9216x1, .i32⟩ : BufTy).Contents (Elt Ideal) → (⟨S9216x1, .i32⟩ : BufTy).Contents (Elt Ideal) → (⟨S9216x1, .i1⟩ : BufTy).Contents (Elt Ideal)),
    StableHlo.unary main_call5_c_1 main_call5_v8 ((broadcastInDim S1x1 ![1] bcast_S1_S1x1_1) : (⟨S1, .i32⟩ : BufTy).Contents (Elt Ideal) → (⟨S1x1, .i32⟩ : BufTy).Contents (Elt Ideal)),
    StableHlo.unary main_call5_v8 main_call5_v9 ((broadcastInDim S9216x1 ![0, 1] bcast_S1x1_S9216x1_0_1) : (⟨S1x1, .i32⟩ : BufTy).Contents (Elt Ideal) → (⟨S9216x1, .i32⟩ : BufTy).Contents (Elt Ideal)),
    StableHlo.binary main_call5_v5 main_call5_v9 main_call5_v10 ((cmpi .sle) : (⟨S9216x1, .i32⟩ : BufTy).Contents (Elt Ideal) → (⟨S9216x1, .i32⟩ : BufTy).Contents (Elt Ideal) → (⟨S9216x1, .i1⟩ : BufTy).Contents (Elt Ideal)),
    StableHlo.binary main_call5_v7 main_call5_v10 main_call5_v11 (andi : (⟨S9216x1, .i1⟩ : BufTy).Contents (Elt Ideal) → (⟨S9216x1, .i1⟩ : BufTy).Contents (Elt Ideal) → (⟨S9216x1, .i1⟩ : BufTy).Contents (Elt Ideal)),
    StableHlo.nullary main_call5_c_3 ((constantI S_ 1 1#1) : (⟨S_, .i1⟩ : BufTy).Contents (Elt Ideal)),
    StableHlo.binary main_call5_v11 main_call5_c_3 main_call5_v12 ((fun x v => Host.reduce IntOp.andi x v reducesTo_S9216x1_S9216_d1 h_S_) : (⟨S9216x1, .i1⟩ : BufTy).Contents (Elt Ideal) → (⟨S_, .i1⟩ : BufTy).Contents (Elt Ideal) → (⟨S9216, .i1⟩ : BufTy).Contents (Elt Ideal)),
    StableHlo.binary main_arg3 main_call5_v5 main_call5_v13 ((fun x i => Host.gather gather_S1024x64_S9216x1_S9216x64_1_0_n_n_0_1_164 x i) : (⟨S1024x64, .f32⟩ : BufTy).Contents (Elt Ideal) → (⟨S9216x1, .i32⟩ : BufTy).Contents (Elt Ideal) → (⟨S9216x64, .f32⟩ : BufTy).Contents (Elt Ideal)),
    StableHlo.unary main_call5_v12 main_call5_v14 ((broadcastInDim S9216x64 ![0] bcast_S9216_S9216x64_0) : (⟨S9216, .i1⟩ : BufTy).Contents (Elt Ideal) → (⟨S9216x64, .i1⟩ : BufTy).Contents (Elt Ideal)),
    StableHlo.nullary main_call5_cst ((constant (F := Ideal) S_ .f32 0x7FC00000#32) : (⟨S_, .f32⟩ : BufTy).Contents (Elt Ideal)),
    StableHlo.unary main_call5_cst main_call5_v15 ((broadcastInDim S9216x64 ![] bcast_S_S9216x64) : (⟨S_, .f32⟩ : BufTy).Contents (Elt Ideal) → (⟨S9216x64, .f32⟩ : BufTy).Contents (Elt Ideal)),
    StableHlo.ternary main_call5_v14 main_call5_v13 main_call5_v15 main_v79 (select : (⟨S9216x64, .i1⟩ : BufTy).Contents (Elt Ideal) → (⟨S9216x64, .f32⟩ : BufTy).Contents (Elt Ideal) → (⟨S9216x64, .f32⟩ : BufTy).Contents (Elt Ideal) → (⟨S9216x64, .f32⟩ : BufTy).Contents (Elt Ideal)) ]

/-- Level 2: the losses, the running totals and what is left to quantize. -/
def lineRest2 : List (HloOp τ sig (Elt Ideal)) :=
  [ StableHlo.reshape main_v79 main_v80 (rfl : (.f32 : EltTy) = .f32) shapeCasts_S9216x64_S16x576x64,
    StableHlo.binary main_v80 main_v62 main_v81 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v81 main_v81 main_v82 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_19 (constant (F := Ideal) S_ .f32 0x00000000#32),
    StableHlo.binary main_v82 main_cst_19 main_v83 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_20 (constant (F := Ideal) S_ .f32 0x49100000#32),
    StableHlo.binary main_v83 main_cst_20 main_v84 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v80 main_v62 main_v85 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v85 main_v85 main_v86 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_21 (constant (F := Ideal) S_ .f32 0x00000000#32),
    StableHlo.binary main_v86 main_cst_21 main_v87 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_22 (constant (F := Ideal) S_ .f32 0x49100000#32),
    StableHlo.binary main_v87 main_cst_22 main_v88 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.reshape main_v78 main_v89 (rfl : (.i32 : EltTy) = .i32) shapeCasts_S9216_S16x576,
    StableHlo.binary main_v59 main_v80 main_v90 (addf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v60 main_v84 main_v91 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v61 main_v88 main_v92 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v62 main_v80 main_v93 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.reshape main_v93 main_v94 (rfl : (.f32 : EltTy) = .f32) shapeCasts_S16x576x64_S9216x64 ]

/-- Level 3: the distances and the index of the nearest code. -/
def lineSearch3 : List (HloOp τ sig (Elt Ideal)) :=
  [ StableHlo.binary main_v94 main_v94 main_v95 (mulf (F := Ideal) (φ := .f32) : (⟨S9216x64, .f32⟩ : BufTy).Contents (Elt Ideal) → (⟨S9216x64, .f32⟩ : BufTy).Contents (Elt Ideal) → (⟨S9216x64, .f32⟩ : BufTy).Contents (Elt Ideal)),
    StableHlo.nullary main_cst_23 (constant (F := Ideal) S_ .f32 0x00000000#32),
    StableHlo.binary main_v95 main_cst_23 main_v96 ((fun x v => Host.reduceAdd (F := Ideal) (φ := .f32) x v reducesTo_S9216x64_S9216_d1 h_S_) : (⟨S9216x64, .f32⟩ : BufTy).Contents (Elt Ideal) → (⟨S_, .f32⟩ : BufTy).Contents (Elt Ideal) → (⟨S9216, .f32⟩ : BufTy).Contents (Elt Ideal)),
    StableHlo.unary main_v96 main_v97 (broadcastInDim S9216x1 ![0] bcast_S9216_S9216x1_0 : (⟨S9216, .f32⟩ : BufTy).Contents (Elt Ideal) → (⟨S9216x1, .f32⟩ : BufTy).Contents (Elt Ideal)),
    StableHlo.binary main_arg4 main_arg4 main_v98 (mulf (F := Ideal) (φ := .f32) : (⟨S1024x64, .f32⟩ : BufTy).Contents (Elt Ideal) → (⟨S1024x64, .f32⟩ : BufTy).Contents (Elt Ideal) → (⟨S1024x64, .f32⟩ : BufTy).Contents (Elt Ideal)),
    StableHlo.nullary main_cst_24 (constant (F := Ideal) S_ .f32 0x00000000#32),
    StableHlo.binary main_v98 main_cst_24 main_v99 ((fun x v => Host.reduceAdd (F := Ideal) (φ := .f32) x v reducesTo_S1024x64_S1024_d1 h_S_) : (⟨S1024x64, .f32⟩ : BufTy).Contents (Elt Ideal) → (⟨S_, .f32⟩ : BufTy).Contents (Elt Ideal) → (⟨S1024, .f32⟩ : BufTy).Contents (Elt Ideal)),
    StableHlo.unary main_v99 main_v100 (broadcastInDim S1x1024 ![1] bcast_S1024_S1x1024_1 : (⟨S1024, .f32⟩ : BufTy).Contents (Elt Ideal) → (⟨S1x1024, .f32⟩ : BufTy).Contents (Elt Ideal)),
    StableHlo.unary main_v97 main_v101 (broadcastInDim S9216x1024 ![0, 1] bcast_S9216x1_S9216x1024_0_1 : (⟨S9216x1, .f32⟩ : BufTy).Contents (Elt Ideal) → (⟨S9216x1024, .f32⟩ : BufTy).Contents (Elt Ideal)),
    StableHlo.unary main_v100 main_v102 (broadcastInDim S9216x1024 ![0, 1] bcast_S1x1024_S9216x1024_0_1 : (⟨S1x1024, .f32⟩ : BufTy).Contents (Elt Ideal) → (⟨S9216x1024, .f32⟩ : BufTy).Contents (Elt Ideal)),
    StableHlo.binary main_v101 main_v102 main_v103 (addf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.unary main_arg4 main_v104 ((transpose S64x1024 [1, 0] · transposes_S1024x64_S64x1024_1_0) : (⟨S1024x64, .f32⟩ : BufTy).Contents (Elt Ideal) → (⟨S64x1024, .f32⟩ : BufTy).Contents (Elt Ideal)),
    StableHlo.binary main_v94 main_v104 main_v105 ((fun l r => Host.dotGeneral (F := Ideal) (φ₁ := .f32) (φ₂ := .f32) dot_S9216x64_S64x1024_S9216x1024_1_0_0_1_n_n none l r) : (⟨S9216x64, .f32⟩ : BufTy).Contents (Elt Ideal) → (⟨S64x1024, .f32⟩ : BufTy).Contents (Elt Ideal) → (⟨S9216x1024, .f32⟩ : BufTy).Contents (Elt Ideal)),
    StableHlo.nullary main_cst_25 (constant (F := Ideal) S_ .f32 0x40000000#32),
    StableHlo.unary main_cst_25 main_v106 (broadcastInDim S9216x1024 ![] bcast_S_S9216x1024 : (⟨S_, .f32⟩ : BufTy).Contents (Elt Ideal) → (⟨S9216x1024, .f32⟩ : BufTy).Contents (Elt Ideal)),
    StableHlo.binary main_v106 main_v105 main_v107 (mulf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.binary main_v103 main_v107 main_v108 (subf (F := Ideal) (φ := .f32) : (⟨S9216x1024, .f32⟩ : BufTy).Contents (Elt Ideal) → (⟨S9216x1024, .f32⟩ : BufTy).Contents (Elt Ideal) → (⟨S9216x1024, .f32⟩ : BufTy).Contents (Elt Ideal)),
    StableHlo.nullary main_call6_v0 ((iotaInDim S9216x1024 32 1) : (⟨S9216x1024, .i32⟩ : BufTy).Contents (Elt Ideal)),
    StableHlo.nullary main_call6_cst ((constant (F := Ideal) S_ .f32 0x7F800000#32) : (⟨S_, .f32⟩ : BufTy).Contents (Elt Ideal)),
    StableHlo.nullary main_call6_c ((constantI S_ 32 0#32) : (⟨S_, .i32⟩ : BufTy).Contents (Elt Ideal)),
    StableHlo.quaternary main_v108 main_call6_v0 main_call6_cst main_call6_c main_call6_v1_0 ((fun x y u v j => (Host.argReduce (F := Ideal) reducer_argmin_f32_i32 x y u v reducesTo_S9216x1024_S9216_d1 h_S_ j).1) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .f32⟩ : BufTy).Contents (Elt Ideal)),
    StableHlo.quaternary main_v108 main_call6_v0 main_call6_cst main_call6_c main_v109 ((fun x y u v j => (Host.argReduce (F := Ideal) reducer_argmin_f32_i32 x y u v reducesTo_S9216x1024_S9216_d1 h_S_ j).2) : (⟨S9216x1024, .f32⟩ : BufTy).Contents (Elt Ideal) → (⟨S9216x1024, .i32⟩ : BufTy).Contents (Elt Ideal) → (⟨S_, .f32⟩ : BufTy).Contents (Elt Ideal) → (⟨S_, .i32⟩ : BufTy).Contents (Elt Ideal) → (⟨S9216, .i32⟩ : BufTy).Contents (Elt Ideal)) ]

/-- Level 3: the codes at the indices found. -/
def lineTake3 : List (HloOp τ sig (Elt Ideal)) :=
  [ StableHlo.nullary main_call7_c ((constantI S_ 32 0#32) : (⟨S_, .i32⟩ : BufTy).Contents (Elt Ideal)),
    StableHlo.unary main_call7_c main_call7_v0 ((broadcastInDim S9216 ![] bcast_S_S9216) : (⟨S_, .i32⟩ : BufTy).Contents (Elt Ideal) → (⟨S9216, .i32⟩ : BufTy).Contents (Elt Ideal)),
    StableHlo.binary main_v109 main_call7_v0 main_call7_v1 ((cmpi .slt) : (⟨S9216, .i32⟩ : BufTy).Contents (Elt Ideal) → (⟨S9216, .i32⟩ : BufTy).Contents (Elt Ideal) → (⟨S9216, .i1⟩ : BufTy).Contents (Elt Ideal)),
    StableHlo.nullary main_call7_c_0 ((constantI S_ 32 1024#32) : (⟨S_, .i32⟩ : BufTy).Contents (Elt Ideal)),
    StableHlo.unary main_call7_c_0 main_call7_v2 ((broadcastInDim S9216 ![] bcast_S_S9216) : (⟨S_, .i32⟩ : BufTy).Contents (Elt Ideal) → (⟨S9216, .i32⟩ : BufTy).Contents (Elt Ideal)),
    StableHlo.binary main_v109 main_call7_v2 main_call7_v3 (addi : (⟨S9216, .i32⟩ : BufTy).Contents (Elt Ideal) → (⟨S9216, .i32⟩ : BufTy).Contents (Elt Ideal) → (⟨S9216, .i32⟩ : BufTy).Contents (Elt Ideal)),
    StableHlo.ternary main_call7_v1 main_call7_v3 main_v109 main_call7_v4 (select : (⟨S9216, .i1⟩ : BufTy).Contents (Elt Ideal) → (⟨S9216, .i32⟩ : BufTy).Contents (Elt Ideal) → (⟨S9216, .i32⟩ : BufTy).Contents (Elt Ideal) → (⟨S9216, .i32⟩ : BufTy).Contents (Elt Ideal)),
    StableHlo.unary main_call7_v4 main_call7_v5 ((broadcastInDim S9216x1 ![0] bcast_S9216_S9216x1_0) : (⟨S9216, .i32⟩ : BufTy).Contents (Elt Ideal) → (⟨S9216x1, .i32⟩ : BufTy).Contents (Elt Ideal)),
    StableHlo.nullary main_call7_c_1 ((constantI S1 32 1023#32) : (⟨S1, .i32⟩ : BufTy).Contents (Elt Ideal)),
    StableHlo.nullary main_call7_c_2 ((constantI S_ 32 0#32) : (⟨S_, .i32⟩ : BufTy).Contents (Elt Ideal)),
    StableHlo.unary main_call7_c_2 main_call7_v6 ((broadcastInDim S9216x1 ![] bcast_S_S9216x1) : (⟨S_, .i32⟩ : BufTy).Contents (Elt Ideal) → (⟨S9216x1, .i32⟩ : BufTy).Contents (Elt Ideal)),
    StableHlo.binary main_call7_v5 main_call7_v6 main_call7_v7 ((cmpi .sge) : (⟨S9216x1, .i32⟩ : BufTy).Contents (Elt Ideal) → (⟨S9216x1, .i32⟩ : BufTy).Contents (Elt Ideal) → (⟨S9216x1, .i1⟩ : BufTy).Contents (Elt Ideal)),
    StableHlo.unary main_call7_c_1 main_call7_v8 ((broadcastInDim S1x1 ![1] bcast_S1_S1x1_1) : (⟨S1, .i32⟩ : BufTy).Contents (Elt Ideal) → (⟨S1x1, .i32⟩ : BufTy).Contents (Elt Ideal)),
    StableHlo.unary main_call7_v8 main_call7_v9 ((broadcastInDim S9216x1 ![0, 1] bcast_S1x1_S9216x1_0_1) : (⟨S1x1, .i32⟩ : BufTy).Contents (Elt Ideal) → (⟨S9216x1, .i32⟩ : BufTy).Contents (Elt Ideal)),
    StableHlo.binary main_call7_v5 main_call7_v9 main_call7_v10 ((cmpi .sle) : (⟨S9216x1, .i32⟩ : BufTy).Contents (Elt Ideal) → (⟨S9216x1, .i32⟩ : BufTy).Contents (Elt Ideal) → (⟨S9216x1, .i1⟩ : BufTy).Contents (Elt Ideal)),
    StableHlo.binary main_call7_v7 main_call7_v10 main_call7_v11 (andi : (⟨S9216x1, .i1⟩ : BufTy).Contents (Elt Ideal) → (⟨S9216x1, .i1⟩ : BufTy).Contents (Elt Ideal) → (⟨S9216x1, .i1⟩ : BufTy).Contents (Elt Ideal)),
    StableHlo.nullary main_call7_c_3 ((constantI S_ 1 1#1) : (⟨S_, .i1⟩ : BufTy).Contents (Elt Ideal)),
    StableHlo.binary main_call7_v11 main_call7_c_3 main_call7_v12 ((fun x v => Host.reduce IntOp.andi x v reducesTo_S9216x1_S9216_d1 h_S_) : (⟨S9216x1, .i1⟩ : BufTy).Contents (Elt Ideal) → (⟨S_, .i1⟩ : BufTy).Contents (Elt Ideal) → (⟨S9216, .i1⟩ : BufTy).Contents (Elt Ideal)),
    StableHlo.binary main_arg4 main_call7_v5 main_call7_v13 ((fun x i => Host.gather gather_S1024x64_S9216x1_S9216x64_1_0_n_n_0_1_164 x i) : (⟨S1024x64, .f32⟩ : BufTy).Contents (Elt Ideal) → (⟨S9216x1, .i32⟩ : BufTy).Contents (Elt Ideal) → (⟨S9216x64, .f32⟩ : BufTy).Contents (Elt Ideal)),
    StableHlo.unary main_call7_v12 main_call7_v14 ((broadcastInDim S9216x64 ![0] bcast_S9216_S9216x64_0) : (⟨S9216, .i1⟩ : BufTy).Contents (Elt Ideal) → (⟨S9216x64, .i1⟩ : BufTy).Contents (Elt Ideal)),
    StableHlo.nullary main_call7_cst ((constant (F := Ideal) S_ .f32 0x7FC00000#32) : (⟨S_, .f32⟩ : BufTy).Contents (Elt Ideal)),
    StableHlo.unary main_call7_cst main_call7_v15 ((broadcastInDim S9216x64 ![] bcast_S_S9216x64) : (⟨S_, .f32⟩ : BufTy).Contents (Elt Ideal) → (⟨S9216x64, .f32⟩ : BufTy).Contents (Elt Ideal)),
    StableHlo.ternary main_call7_v14 main_call7_v13 main_call7_v15 main_v110 (select : (⟨S9216x64, .i1⟩ : BufTy).Contents (Elt Ideal) → (⟨S9216x64, .f32⟩ : BufTy).Contents (Elt Ideal) → (⟨S9216x64, .f32⟩ : BufTy).Contents (Elt Ideal) → (⟨S9216x64, .f32⟩ : BufTy).Contents (Elt Ideal)) ]

/-- Level 3: the losses, the running totals and what is left to quantize. -/
def lineRest3 : List (HloOp τ sig (Elt Ideal)) :=
  [ StableHlo.reshape main_v110 main_v111 (rfl : (.f32 : EltTy) = .f32) shapeCasts_S9216x64_S16x576x64,
    StableHlo.binary main_v111 main_v93 main_v112 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v112 main_v112 main_v113 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_26 (constant (F := Ideal) S_ .f32 0x00000000#32),
    StableHlo.binary main_v113 main_cst_26 main_v114 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_27 (constant (F := Ideal) S_ .f32 0x49100000#32),
    StableHlo.binary main_v114 main_cst_27 main_v115 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v111 main_v93 main_v116 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v116 main_v116 main_v117 (mulf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_28 (constant (F := Ideal) S_ .f32 0x00000000#32),
    StableHlo.binary main_v117 main_cst_28 main_v118 ((fun x v => Host.reduceAdd (F := Ideal) (φ := .f32) x v reducesTo_S16x576x64_S_d0_1_2 h_S_) : (⟨S16x576x64, .f32⟩ : BufTy).Contents (Elt Ideal) → (⟨S_, .f32⟩ : BufTy).Contents (Elt Ideal) → (⟨S_, .f32⟩ : BufTy).Contents (Elt Ideal)),
    StableHlo.nullary main_cst_29 (constant (F := Ideal) S_ .f32 0x49100000#32),
    StableHlo.binary main_v118 main_cst_29 main_v119 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.reshape main_v109 main_v120 (rfl : (.i32 : EltTy) = .i32) shapeCasts_S9216_S16x576,
    StableHlo.binary main_v90 main_v111 main_v121 (addf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_v91 main_v115 main_v122 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v92 main_v119 main_v123 (addf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.binary main_v93 main_v111 main_v124 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)) ]

/-- The operations after the last level: the straight-through result, the two averaged losses, the stacked indices. -/
def lineTail : List (HloOp τ sig (Elt Ideal)) :=
  [ StableHlo.binary main_v121 main_arg0 main_v125 (subf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.binary main_arg0 main_v125 main_v126 (addf (F := Ideal) (φ := .f32) : (⟨S16x576x64, .f32⟩ : BufTy).Contents (Elt Ideal) → (⟨S16x576x64, .f32⟩ : BufTy).Contents (Elt Ideal) → (⟨S16x576x64, .f32⟩ : BufTy).Contents (Elt Ideal)),
    StableHlo.nullary main_cst_30 (constant (F := Ideal) S_ .f32 0x40800000#32),
    StableHlo.binary main_v122 main_cst_30 main_v127 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.nullary main_cst_31 (constant (F := Ideal) S_ .f32 0x40800000#32),
    StableHlo.binary main_v123 main_cst_31 main_v128 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.unary main_v27 main_v129 (broadcastInDim S1x16x576 ![1, 2] bcast_S16x576_S1x16x576_1_2 : (⟨S16x576, .i32⟩ : BufTy).Contents (Elt Ideal) → (⟨S1x16x576, .i32⟩ : BufTy).Contents (Elt Ideal)),
    StableHlo.unary main_v58 main_v130 (broadcastInDim S1x16x576 ![1, 2] bcast_S16x576_S1x16x576_1_2 : (⟨S16x576, .i32⟩ : BufTy).Contents (Elt Ideal) → (⟨S1x16x576, .i32⟩ : BufTy).Contents (Elt Ideal)),
    StableHlo.unary main_v89 main_v131 (broadcastInDim S1x16x576 ![1, 2] bcast_S16x576_S1x16x576_1_2 : (⟨S16x576, .i32⟩ : BufTy).Contents (Elt Ideal) → (⟨S1x16x576, .i32⟩ : BufTy).Contents (Elt Ideal)),
    StableHlo.unary main_v120 main_v132 (broadcastInDim S1x16x576 ![1, 2] bcast_S16x576_S1x16x576_1_2 : (⟨S16x576, .i32⟩ : BufTy).Contents (Elt Ideal) → (⟨S1x16x576, .i32⟩ : BufTy).Contents (Elt Ideal)),
    StableHlo.nary ![main_v129, main_v130, main_v131, main_v132] main_v133 (fun u => (concatenate S4x16x576 0 [⟨S1x16x576, (u 0 : (⟨S1x16x576, .i32⟩ : BufTy).Contents (Elt Ideal))⟩, ⟨S1x16x576, (u 1 : (⟨S1x16x576, .i32⟩ : BufTy).Contents (Elt Ideal))⟩, ⟨S1x16x576, (u 2 : (⟨S1x16x576, .i32⟩ : BufTy).Contents (Elt Ideal))⟩, ⟨S1x16x576, (u 3 : (⟨S1x16x576, .i32⟩ : BufTy).Contents (Elt Ideal))⟩] concatenates_S1x16x576_S1x16x576_S1x16x576_S1x16x576_S4x16x576_d0 : (⟨S4x16x576, .i32⟩ : BufTy).Contents (Elt Ideal))) ]

set_option maxHeartbeats 4000000 in
/-- The printed function is its pieces run one after the other. -/
theorem main_eq (d : Dev nD) :
    main d = StableHlo.seq (lineHead ++ (lineSearch0 ++ (lineTake0 ++ (lineRest0 ++ (lineSearch1 ++ (lineTake1 ++ (lineRest1 ++
      (lineSearch2 ++ (lineTake2 ++ (lineRest2 ++ (lineSearch3 ++ (lineTake3 ++ (lineRest3 ++ lineTail))))))))))))) := by
  rfl

/-- A buffer that none of some operations writes keeps its contents over them. -/
theorem kept (ops : List (HloOp τ sig (Elt Ideal))) (b : Ref sig .tc) {V : Valuation τ sig (Elt Ideal)}
    (h : ∀ op ∈ ops, (Proc.devRef (τ := τ) .tc b) ∉ op.writes := by decide) :
    StableHlo.after ops V (Proc.devRef .tc b) = V (Proc.devRef .tc b) :=
  StableHlo.after_of_forall_not_mem ops V h

end Cert.ReferenceIdeal.Line

end
-- ==== Proof.RefLevel.lean ====
/-
  One quantizer level of the reference as functions of whole arrays: what a level's operations leave in its buffers.
-/
module

public import proofs.«01_k».proof.Proof.RefLine

@[expose] public section

set_option maxRecDepth 16384

noncomputable section

namespace Cert.ReferenceIdeal.Line

open Idealize.ShloMosaic Idealize.ShloMosaic.TcCoe Idealize.SL.Sem Cert.ReferenceIdeal Facts₀ Facts

/-- Squared distances of every row of `f` to every code of `E`, in the reference's grouping. -/
def dist (f : FVec Ideal S9216x64 .f32) (E : FVec Ideal S1024x64 .f32) : FVec Ideal S9216x1024 .f32 :=
  subf
    (addf
      (broadcastInDim S9216x1024 ![0, 1] bcast_S9216x1_S9216x1024_0_1
        (broadcastInDim S9216x1 ![0] bcast_S9216_S9216x1_0
          (Host.reduceAdd (mulf f f) (constant S_ .f32 0x00000000#32) reducesTo_S9216x64_S9216_d1 h_S_)))
      (broadcastInDim S9216x1024 ![0, 1] bcast_S1x1024_S9216x1024_0_1
        (broadcastInDim S1x1024 ![1] bcast_S1024_S1x1024_1
          (Host.reduceAdd (mulf E E) (constant S_ .f32 0x00000000#32) reducesTo_S1024x64_S1024_d1 h_S_))))
    (mulf (broadcastInDim S9216x1024 ![] bcast_S_S9216x1024 (constant S_ .f32 0x40000000#32))
      (Host.dotGeneral dot_S9216x64_S64x1024_S9216x1024_1_0_0_1_n_n none f
        (transpose S64x1024 [1, 0] E transposes_S1024x64_S64x1024_1_0)))

/-- An index with negative ones counted from the end, as a column. -/
def wrapped (i : IVec S9216 32) : IVec S9216x1 32 :=
  broadcastInDim S9216x1 ![0] bcast_S9216_S9216x1_0
    (select (cmpi .slt i (broadcastInDim S9216 ![] bcast_S_S9216 (constantI S_ 32 0#32)))
      (addi i (broadcastInDim S9216 ![] bcast_S_S9216 (constantI S_ 32 1024#32))) i)

/-- Whether each index lies in the table. -/
def inTable (w : IVec S9216x1 32) : IVec S9216 1 :=
  Host.reduce IntOp.andi
    (andi (cmpi .sge w (broadcastInDim S9216x1 ![] bcast_S_S9216x1 (constantI S_ 32 0#32)))
      (cmpi .sle w
        (broadcastInDim S9216x1 ![0, 1] bcast_S1x1_S9216x1_0_1 (broadcastInDim S1x1 ![1] bcast_S1_S1x1_1 (constantI S1 32 1023#32)))))
    (constantI S_ 1 1#1) reducesTo_S9216x1_S9216_d1 h_S_

/-- The rows of `E` at the indices `i`. -/
def take (E : FVec Ideal S1024x64 .f32) (i : IVec S9216 32) : FVec Ideal S9216x64 .f32 :=
  select (broadcastInDim S9216x64 ![0] bcast_S9216_S9216x64_0 (inTable (wrapped i)))
    (Host.gather gather_S1024x64_S9216x1_S9216x64_1_0_n_n_0_1_164 E (wrapped i))
    (broadcastInDim S9216x64 ![] bcast_S_S9216x64 (constant S_ .f32 0x7FC00000#32))

end Cert.ReferenceIdeal.Line

end
-- ==== Proof.RefSem.lean ====
/-
  What the reference's search, its table lookup and its distances are, element by element.
-/
module

public import proofs.«01_k».proof.ReferenceIdeal
public import proofs.«01_k».proof.Proof.Spec
public import proofs.«01_k».proof.Proof.Gen.ReferenceIdeal
public import Idealize.ShloMosaic.PureOps.Ideal.Laws
public import Idealize.ShloMosaic.Lib.Pointwise
public import Idealize.ShloMosaic.Lib.Routing.Ops
public import Idealize.ShloMosaic.Lib.IdealHost
public import Idealize.ShloMosaic.Lib.Pointwise.IndexBridge
public import proofs.«01_k».proof.Proof.RefLevel

@[expose] public section

set_option maxRecDepth 16384

noncomputable section

namespace Cert.ReferenceIdeal.Line

open Idealize.ShloMosaic Idealize.ShloMosaic.TcCoe Idealize.SL.Sem
open Cert.ReferenceIdeal Facts₀ Facts Cert.Nearest Cert.Spec

/-- One step of the search keeps one of its two pairs, no later than either. -/
theorem reducer_keeps (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  obtain ⟨x, i⟩ := a
  obtain ⟨y, k⟩ := b
  have e : reducer_argmin_f32_i32 (F := Ideal) (x, i) (y, k)
      = if x < y then (x, i) else if x = y then (if i.toInt < k.toInt then (x, i) else (y, k)) else (y, k) := by
    unfold reducer_argmin_f32_i32
    simp only [Ideal.cmpf_def, Ideal.cmp]
    by_cases h : x < y
    · simp [h, h.ne, Scalar.select, IntOp.ori, IntOp.andi, IntOp.cmpi]
    · by_cases g : x = y
      · subst g
        by_cases l : i.toInt < k.toInt
        · simp [l, Scalar.select, IntOp.ori, IntOp.andi, IntOp.cmpi, BitVec.slt]
        · simp [l, Scalar.select, IntOp.ori, IntOp.andi, IntOp.cmpi, BitVec.slt]
      · simp [h, g, Scalar.select, IntOp.ori, IntOp.andi, IntOp.cmpi]
  rw [e]
  split_ifs with h g l
  · exact ⟨.inl rfl, NoLater.refl _, .inl h⟩
  · subst g; exact ⟨.inl rfl, NoLater.refl _, .inr ⟨rfl, l.le⟩⟩
  · subst g; exact ⟨.inr rfl, .inr ⟨rfl, not_lt.mp l⟩, NoLater.refl _⟩
  · exact ⟨.inr rfl, .inl (lt_of_le_of_ne (not_lt.mp h) (Ne.symm g)), NoLater.refl _⟩

/-- The first index of least distance of every row. -/
def firstOf (D : FVec Ideal S9216x1024 .f32) : IVec S9216 32 := fun j =>
  BitVec.ofNat 32 (first fun k : Fin 1024 => D (ix2 (j 0 : Fin 9216) k)).val

/-- The search over rows of distances returns, for each row, the first index of least distance. -/
theorem search_apply (D : FVec Ideal S9216x1024 .f32) (j : S9216.Idx) :
    (Host.argReduce reducer_argmin_f32_i32 D (iotaInDim S9216x1024 32 1) (constant S_ .f32 0x7F800000#32)
      (constantI S_ 32 0#32) reducesTo_S9216x1024_S9216_d1 h_S_ j).2 = firstOf D j := by
  rw [Ideal.argReduce_eq_reduce2]
  unfold Host.reduce2 firstOf
  have drop0 : ∀ i : S9216x1024.Idx, reducesTo_S9216x1024_S9216_d1.drop i = j ↔ i 0 = j 0 := fun i => by
    refine ⟨fun h => h ▸ Fin.ext (reducesTo_S9216x1024_S9216_d1.drop_apply_val_of_eq i 0 0).symm, fun h => funext fun a => ?_⟩
    obtain rfl : a = 0 := Subsingleton.elim _ _
    exact (Fin.ext (reducesTo_S9216x1024_S9216_d1.drop_apply_val_of_eq i 0 0)).trans h
  obtain ⟨hm, -, hl⟩ := foldl_keeps (reducer_argmin_f32_i32 (F := Ideal)) reducer_keeps
    (fun n : Fin S9216x1024.numel => ((D (S9216x1024.rowMajor.symm n) : EReal), iotaInDim S9216x1024 32 1 (S9216x1024.rowMajor.symm n)))
    ((List.finRange S9216x1024.numel).filter fun n => reducesTo_S9216x1024_S9216_d1.drop (S9216x1024.rowMajor.symm n) = j)
    ((constant (F := Ideal) S_ .f32 0x7F800000#32 (Shape.Idx.first h_S_) : EReal), constantI S_ 32 0#32 (Shape.Idx.first h_S_))
  refine index_of_kept (le_refl _) _ _ ?_ ?_
  · rcases hm with h | ⟨n, hn, h⟩
    · left
      rw [h]
      exact Prod.ext lit_top rfl
    · right
      have := (drop0 _).1 (of_decide_eq_true (List.mem_filter.1 hn).2)
      refine ⟨(S9216x1024.rowMajor.symm n) 1, ?_⟩
      rw [h]
      rw [← this]
      refine Prod.ext (congrArg D (eq_ix2 _)) rfl
  · intro k
    have := hl (S9216x1024.rowMajor (ix2 (j 0 : Fin 9216) k)) (List.mem_filter.2 ⟨List.mem_finRange _, by
      simp only [Equiv.symm_apply_apply, decide_eq_true_eq]
      exact (drop0 _).2 rfl⟩)
    simp only [Equiv.symm_apply_apply] at this
    exact this

/-- The search as a whole array. -/
theorem search_eq (D : FVec Ideal S9216x1024 .f32) :
    (fun j => (Host.argReduce reducer_argmin_f32_i32 D (iotaInDim S9216x1024 32 1) (constant S_ .f32 0x7F800000#32)
      (constantI S_ 32 0#32) reducesTo_S9216x1024_S9216_d1 h_S_ j).2) = firstOf D := funext fun j => search_apply D j

/-- A row of an array. -/
def rowOf {n : ℕ} (f : FVec Ideal ⟨2, ![n, 64]⟩ .f32) (r : Fin n) : Fin 64 → EReal := fun k => f (ix2 r k)

/-- The distances, element by element. -/
theorem dist_apply (f : FVec Ideal S9216x64 .f32) (E : FVec Ideal S1024x64 .f32) (r : Fin 9216) (j : Fin 1024) :
    dist f E (ix2 r j) = dists (rowOf f r) (rowOf E) j := by
  unfold dist dists rowOf
  pointwise

/-- The index of a row is the code of least distance. -/
theorem firstOf_dist (f : FVec Ideal S9216x64 .f32) (E : FVec Ideal S1024x64 .f32) (r : Fin 9216) :
    firstOf (dist f E) (ix1 r) = BitVec.ofNat 32 (best (rowOf f r) (rowOf E)).val := by
  unfold firstOf best
  exact congrArg (fun d : Fin 1024 → EReal => BitVec.ofNat 32 (first d).val) (funext fun k => dist_apply f E r k)

/-- A small index is not wrapped. -/
theorem wrapped_apply (i : IVec S9216 32) (r : Fin 9216) (b : Fin 1024) (h : i (ix1 r) = BitVec.ofNat 32 b.val) (z : Fin 1) :
    wrapped i (ix2 r z) = BitVec.ofNat 32 b.val := by
  have hb : (BitVec.ofNat 32 b.val).toInt = b.val := toInt_ofNat_small (by have := b.isLt; omega)
  have hn : ¬ (BitVec.ofNat 32 b.val).toInt < 0 := by omega
  unfold wrapped
  pointwise
  rw [h]
  simp [Scalar.select, IntOp.cmpi, BitVec.slt, hn]

/-- A small index lies in the table. -/
theorem inTable_apply (i : IVec S9216 32) (r : Fin 9216) (b : Fin 1024) (h : i (ix1 r) = BitVec.ofNat 32 b.val) :
    inTable (wrapped i) (ix1 r) = 1#1 := by
  have hb : (BitVec.ofNat 32 b.val).toInt = b.val := toInt_ofNat_small (by have := b.isLt; omega)
  have hlt := b.isLt
  unfold inTable
  rw [Host.reduce_eq_foldl]
  have all : ∀ l : List S9216x1.Idx, (∀ q ∈ l, reducesTo_S9216x1_S9216_d1.drop q = ix1 r) →
      l.foldl (fun a q => IntOp.andi a ((andi (cmpi .sge (wrapped i) (broadcastInDim S9216x1 ![] bcast_S_S9216x1 (constantI S_ 32 0#32)))
        (cmpi .sle (wrapped i) (broadcastInDim S9216x1 ![0, 1] bcast_S1x1_S9216x1_0_1 (broadcastInDim S1x1 ![1] bcast_S1_S1x1_1 (constantI S1 32 1023#32))))) q)) 1#1 = 1#1 := by
    intro l
    induction l with
    | nil => exact fun _ => rfl
    | cons q l ih =>
      intro hq
      have h0 : q 0 = r := by
        have := congrFun (hq q List.mem_cons_self) 0
        exact (Fin.ext (reducesTo_S9216x1_S9216_d1.drop_apply_val_of_eq q 0 0)).symm.trans this
      have hw : wrapped i q = BitVec.ofNat 32 b.val := by
        have := wrapped_apply i r b h (q 1)
        rw [← h0] at this
        exact (congrArg (wrapped i) (eq_ix2 q)).trans this
      rw [List.foldl_cons]
      refine Eq.trans (congrArg (fun a => List.foldl _ a l) ?_) (ih fun q' h' => hq q' (List.mem_cons_of_mem _ h'))
      show IntOp.andi 1#1 (IntOp.andi (IntOp.cmpi .sge (wrapped i q) 0#32) (IntOp.cmpi .sle (wrapped i q) 1023#32)) = 1#1
      rw [hw]
      have h1 : (1023#32 : BitVec 32).toInt = 1023 := by decide
      simp [IntOp.cmpi, BitVec.sle, IntOp.andi, hb, h1, show b.val ≤ 1023 by omega]
  exact all _ fun q hq => of_decide_eq_true (List.mem_filter.1 hq).2

/-- The lookup returns the rows of the table. -/
theorem take_apply (E : FVec Ideal S1024x64 .f32) (i : IVec S9216 32) (r : Fin 9216) (b : Fin 1024)
    (h : i (ix1 r) = BitVec.ofNat 32 b.val) (k : Fin 64) : take E i (ix2 r k) = E (ix2 b k) := by
  unfold take
  have e : (broadcastInDim S9216x64 ![0] bcast_S9216_S9216x64_0 (inTable (wrapped i))) (ix2 r k) = 1#1 := by
    pointwise
    exact inTable_apply i r b h
  have g : Host.gather gather_S1024x64_S9216x1_S9216x64_1_0_n_n_0_1_164 E (wrapped i) (ix2 r k) = E (ix2 b k) := by
    rw [ix2_eq_valueIdx, ix2_eq_valueIdx]
    refine Routing.gather_row _ rfl rfl rfl rfl rfl E (wrapped i) r k b ?_ (by norm_num)
    rw [← ix2_eq_valueIdx]
    exact wrapped_apply i r b h 0
  show Scalar.select _ _ _ = _
  rw [e, g]
  rfl

/-- The index array of a level whose flattened input is `f`. -/
def index (f : FVec Ideal S9216x64 .f32) (E : FVec Ideal S1024x64 .f32) : IVec S9216 32 := firstOf (dist f E)

/-- The codes a level picks, in the input's shape. -/
def quant (f : FVec Ideal S9216x64 .f32) (E : FVec Ideal S1024x64 .f32) : FVec Ideal S16x576x64 .f32 :=
  shapeCast S16x576x64 (take E (index f E)) shapeCasts_S9216x64_S16x576x64

/-- The mean squared distance of the codes to the input. -/
def loss (q x : FVec Ideal S16x576x64 .f32) : FVec Ideal S_ .f32 :=
  Host.divf
    (Host.reduceAdd (mulf (subf q x) (subf q x)) (constant S_ .f32 0x00000000#32) reducesTo_S16x576x64_S_d0_1_2 h_S_)
    (constant S_ .f32 0x49100000#32)

/-- The rows of an input. -/
def flat (x : FVec Ideal S16x576x64 .f32) : FVec Ideal S9216x64 .f32 := shapeCast S9216x64 x shapeCasts_S16x576x64_S9216x64

/-- An index array in the input's shape. -/
def grid (i : IVec S9216 32) : IVec S16x576 32 := shapeCast S16x576 i shapeCasts_S9216_S16x576

end Cert.ReferenceIdeal.Line

end
-- ==== Proof.RefLevel0.lean ====
/-
  What the operations of level 0 of the reference leave in the buffers later operations read.
-/
module

public import proofs.«01_k».proof.Proof.RefSem
public import Idealize.ShloMosaic.Lib.StableHlo.RunRead

@[expose] public section

set_option maxRecDepth 16384

noncomputable section

namespace Cert.ReferenceIdeal.Line

open Idealize.ShloMosaic Idealize.ShloMosaic.TcCoe Idealize.SL.Sem Cert.ReferenceIdeal Facts₀ Facts

variable (V : Valuation τ sig (Elt Ideal))

/-- The indices of the level: the nearest codes of its rows. -/
theorem search_0 : StableHlo.after lineSearch0 V (Proc.devRef .tc main_v16) = index (V (Proc.devRef .tc main_v1)) (V (Proc.devRef .tc main_arg1)) := by
  unfold lineSearch0
  after_reads_simp
  rw [search_eq]
  simp only [index, dist]

/-- The codes at these indices. -/
theorem take_0 : StableHlo.after lineTake0 V (Proc.devRef .tc main_v17) = take (V (Proc.devRef .tc main_arg1)) (V (Proc.devRef .tc main_v16)) := by
  unfold lineTake0
  after_reads_simp
  simp only [take, inTable, wrapped]

/-- The indices in the shape of the input. -/
theorem grid_0 : StableHlo.after lineRest0 V (Proc.devRef .tc main_v27) = grid (V (Proc.devRef .tc main_v16)) := by
  unfold lineRest0
  after_reads_simp
  simp only [grid]
  rfl

/-- The sum of the codes so far. -/
theorem total_0 : StableHlo.after lineRest0 V (Proc.devRef .tc main_v28) = addf (F := Ideal) (φ := .f32) (V (Proc.devRef .tc main_v0)) (shapeCast S16x576x64 (V (Proc.devRef .tc main_v17)) shapeCasts_S9216x64_S16x576x64 : FVec Ideal S16x576x64 .f32) := by
  unfold lineRest0
  after_reads_simp
  rfl

/-- The first loss so far. -/
theorem lossA_0 : StableHlo.after lineRest0 V (Proc.devRef .tc main_v29) = addf (F := Ideal) (φ := .f32) (constant S_ .f32 0x00000000#32) (loss (shapeCast S16x576x64 (V (Proc.devRef .tc main_v17)) shapeCasts_S9216x64_S16x576x64 : FVec Ideal S16x576x64 .f32) (V (Proc.devRef .tc main_arg0))) := by
  unfold lineRest0
  after_reads_simp
  simp only [loss]
  rfl

/-- The second loss so far. -/
theorem lossB_0 : StableHlo.after lineRest0 V (Proc.devRef .tc main_v30) = addf (F := Ideal) (φ := .f32) (constant S_ .f32 0x00000000#32) (loss (shapeCast S16x576x64 (V (Proc.devRef .tc main_v17)) shapeCasts_S9216x64_S16x576x64 : FVec Ideal S16x576x64 .f32) (V (Proc.devRef .tc main_arg0))) := by
  unfold lineRest0
  after_reads_simp
  simp only [loss]
  rfl

/-- What is left of the input. -/
theorem rest_0 : StableHlo.after lineRest0 V (Proc.devRef .tc main_v31) = subf (F := Ideal) (φ := .f32) (V (Proc.devRef .tc main_arg0)) (shapeCast S16x576x64 (V (Proc.devRef .tc main_v17)) shapeCasts_S9216x64_S16x576x64 : FVec Ideal S16x576x64 .f32) := by
  unfold lineRest0
  after_reads_simp
  rfl

/-- What is left, as rows for the next level. -/
theorem flat_0 : StableHlo.after lineRest0 V (Proc.devRef .tc main_v32) = flat (subf (F := Ideal) (φ := .f32) (V (Proc.devRef .tc main_arg0)) (shapeCast S16x576x64 (V (Proc.devRef .tc main_v17)) shapeCasts_S9216x64_S16x576x64 : FVec Ideal S16x576x64 .f32)) := by
  unfold lineRest0
  after_reads_simp
  simp only [flat]
  rfl

end Cert.ReferenceIdeal.Line

end
-- ==== Proof.RefLevel1.lean ====
/-
  What the operations of level 1 of the reference leave in the buffers later operations read.
-/
module

public import proofs.«01_k».proof.Proof.RefSem
public import Idealize.ShloMosaic.Lib.StableHlo.RunRead

@[expose] public section

set_option maxRecDepth 16384

noncomputable section

namespace Cert.ReferenceIdeal.Line

open Idealize.ShloMosaic Idealize.ShloMosaic.TcCoe Idealize.SL.Sem Cert.ReferenceIdeal Facts₀ Facts

variable (V : Valuation τ sig (Elt Ideal))

/-- The indices of the level: the nearest codes of its rows. -/
theorem search_1 : StableHlo.after lineSearch1 V (Proc.devRef .tc main_v47) = index (V (Proc.devRef .tc main_v32)) (V (Proc.devRef .tc main_arg2)) := by
  unfold lineSearch1
  after_reads_simp
  rw [search_eq]
  simp only [index, dist]

/-- The codes at these indices. -/
theorem take_1 : StableHlo.after lineTake1 V (Proc.devRef .tc main_v48) = take (V (Proc.devRef .tc main_arg2)) (V (Proc.devRef .tc main_v47)) := by
  unfold lineTake1
  after_reads_simp
  simp only [take, inTable, wrapped]

/-- The indices in the shape of the input. -/
theorem grid_1 : StableHlo.after lineRest1 V (Proc.devRef .tc main_v58) = grid (V (Proc.devRef .tc main_v47)) := by
  unfold lineRest1
  after_reads_simp
  simp only [grid]
  rfl

/-- The sum of the codes so far. -/
theorem total_1 : StableHlo.after lineRest1 V (Proc.devRef .tc main_v59) = addf (F := Ideal) (φ := .f32) (V (Proc.devRef .tc main_v28)) (shapeCast S16x576x64 (V (Proc.devRef .tc main_v48)) shapeCasts_S9216x64_S16x576x64 : FVec Ideal S16x576x64 .f32) := by
  unfold lineRest1
  after_reads_simp
  rfl

/-- The first loss so far. -/
theorem lossA_1 : StableHlo.after lineRest1 V (Proc.devRef .tc main_v60) = addf (F := Ideal) (φ := .f32) (V (Proc.devRef .tc main_v29)) (loss (shapeCast S16x576x64 (V (Proc.devRef .tc main_v48)) shapeCasts_S9216x64_S16x576x64 : FVec Ideal S16x576x64 .f32) (V (Proc.devRef .tc main_v31))) := by
  unfold lineRest1
  after_reads_simp
  simp only [loss]
  rfl

/-- The second loss so far. -/
theorem lossB_1 : StableHlo.after lineRest1 V (Proc.devRef .tc main_v61) = addf (F := Ideal) (φ := .f32) (V (Proc.devRef .tc main_v30)) (loss (shapeCast S16x576x64 (V (Proc.devRef .tc main_v48)) shapeCasts_S9216x64_S16x576x64 : FVec Ideal S16x576x64 .f32) (V (Proc.devRef .tc main_v31))) := by
  unfold lineRest1
  after_reads_simp
  simp only [loss]
  rfl

/-- What is left of the input. -/
theorem rest_1 : StableHlo.after lineRest1 V (Proc.devRef .tc main_v62) = subf (F := Ideal) (φ := .f32) (V (Proc.devRef .tc main_v31)) (shapeCast S16x576x64 (V (Proc.devRef .tc main_v48)) shapeCasts_S9216x64_S16x576x64 : FVec Ideal S16x576x64 .f32) := by
  unfold lineRest1
  after_reads_simp
  rfl

/-- What is left, as rows for the next level. -/
theorem flat_1 : StableHlo.after lineRest1 V (Proc.devRef .tc main_v63) = flat (subf (F := Ideal) (φ := .f32) (V (Proc.devRef .tc main_v31)) (shapeCast S16x576x64 (V (Proc.devRef .tc main_v48)) shapeCasts_S9216x64_S16x576x64 : FVec Ideal S16x576x64 .f32)) := by
  unfold lineRest1
  after_reads_simp
  simp only [flat]
  rfl

end Cert.ReferenceIdeal.Line

end
-- ==== Proof.RefLevel2.lean ====
/-
  What the operations of level 2 of the reference leave in the buffers later operations read.
-/
module

public import proofs.«01_k».proof.Proof.RefSem
public import Idealize.ShloMosaic.Lib.StableHlo.RunRead

@[expose] public section

set_option maxRecDepth 16384

noncomputable section

namespace Cert.ReferenceIdeal.Line

open Idealize.ShloMosaic Idealize.ShloMosaic.TcCoe Idealize.SL.Sem Cert.ReferenceIdeal Facts₀ Facts

variable (V : Valuation τ sig (Elt Ideal))

/-- The indices of the level: the nearest codes of its rows. -/
theorem search_2 : StableHlo.after lineSearch2 V (Proc.devRef .tc main_v78) = index (V (Proc.devRef .tc main_v63)) (V (Proc.devRef .tc main_arg3)) := by
  unfold lineSearch2
  after_reads_simp
  rw [search_eq]
  simp only [index, dist]

/-- The codes at these indices. -/
theorem take_2 : StableHlo.after lineTake2 V (Proc.devRef .tc main_v79) = take (V (Proc.devRef .tc main_arg3)) (V (Proc.devRef .tc main_v78)) := by
  unfold lineTake2
  after_reads_simp
  simp only [take, inTable, wrapped]

/-- The indices in the shape of the input. -/
theorem grid_2 : StableHlo.after lineRest2 V (Proc.devRef .tc main_v89) = grid (V (Proc.devRef .tc main_v78)) := by
  unfold lineRest2
  after_reads_simp
  simp only [grid]
  rfl

/-- The sum of the codes so far. -/
theorem total_2 : StableHlo.after lineRest2 V (Proc.devRef .tc main_v90) = addf (F := Ideal) (φ := .f32) (V (Proc.devRef .tc main_v59)) (shapeCast S16x576x64 (V (Proc.devRef .tc main_v79)) shapeCasts_S9216x64_S16x576x64 : FVec Ideal S16x576x64 .f32) := by
  unfold lineRest2
  after_reads_simp
  rfl

/-- The first loss so far. -/
theorem lossA_2 : StableHlo.after lineRest2 V (Proc.devRef .tc main_v91) = addf (F := Ideal) (φ := .f32) (V (Proc.devRef .tc main_v60)) (loss (shapeCast S16x576x64 (V (Proc.devRef .tc main_v79)) shapeCasts_S9216x64_S16x576x64 : FVec Ideal S16x576x64 .f32) (V (Proc.devRef .tc main_v62))) := by
  unfold lineRest2
  after_reads_simp
  simp only [loss]
  rfl

/-- The second loss so far. -/
theorem lossB_2 : StableHlo.after lineRest2 V (Proc.devRef .tc main_v92) = addf (F := Ideal) (φ := .f32) (V (Proc.devRef .tc main_v61)) (loss (shapeCast S16x576x64 (V (Proc.devRef .tc main_v79)) shapeCasts_S9216x64_S16x576x64 : FVec Ideal S16x576x64 .f32) (V (Proc.devRef .tc main_v62))) := by
  unfold lineRest2
  after_reads_simp
  simp only [loss]
  rfl

/-- What is left of the input. -/
theorem rest_2 : StableHlo.after lineRest2 V (Proc.devRef .tc main_v93) = subf (F := Ideal) (φ := .f32) (V (Proc.devRef .tc main_v62)) (shapeCast S16x576x64 (V (Proc.devRef .tc main_v79)) shapeCasts_S9216x64_S16x576x64 : FVec Ideal S16x576x64 .f32) := by
  unfold lineRest2
  after_reads_simp
  rfl

/-- What is left, as rows for the next level. -/
theorem flat_2 : StableHlo.after lineRest2 V (Proc.devRef .tc main_v94) = flat (subf (F := Ideal) (φ := .f32) (V (Proc.devRef .tc main_v62)) (shapeCast S16x576x64 (V (Proc.devRef .tc main_v79)) shapeCasts_S9216x64_S16x576x64 : FVec Ideal S16x576x64 .f32)) := by
  unfold lineRest2
  after_reads_simp
  simp only [flat]
  rfl

end Cert.ReferenceIdeal.Line

end
-- ==== Proof.RefLevel3.lean ====
/-
  What the operations of level 3 of the reference leave in the buffers later operations read.
-/
module

public import proofs.«01_k».proof.Proof.RefSem
public import Idealize.ShloMosaic.Lib.StableHlo.RunRead

@[expose] public section

set_option maxRecDepth 16384

noncomputable section

namespace Cert.ReferenceIdeal.Line

open Idealize.ShloMosaic Idealize.ShloMosaic.TcCoe Idealize.SL.Sem Cert.ReferenceIdeal Facts₀ Facts

variable (V : Valuation τ sig (Elt Ideal))

/-- The indices of the level: the nearest codes of its rows. -/
theorem search_3 : StableHlo.after lineSearch3 V (Proc.devRef .tc main_v109) = index (V (Proc.devRef .tc main_v94)) (V (Proc.devRef .tc main_arg4)) := by
  unfold lineSearch3
  after_reads_simp
  rw [search_eq]
  simp only [index, dist]

/-- The codes at these indices. -/
theorem take_3 : StableHlo.after lineTake3 V (Proc.devRef .tc main_v110) = take (V (Proc.devRef .tc main_arg4)) (V (Proc.devRef .tc main_v109)) := by
  unfold lineTake3
  after_reads_simp
  simp only [take, inTable, wrapped]

/-- The indices in the shape of the input. -/
theorem grid_3 : StableHlo.after lineRest3 V (Proc.devRef .tc main_v120) = grid (V (Proc.devRef .tc main_v109)) := by
  unfold lineRest3
  after_reads_simp
  simp only [grid]
  rfl

/-- The sum of the codes so far. -/
theorem total_3 : StableHlo.after lineRest3 V (Proc.devRef .tc main_v121) = addf (F := Ideal) (φ := .f32) (V (Proc.devRef .tc main_v90)) (shapeCast S16x576x64 (V (Proc.devRef .tc main_v110)) shapeCasts_S9216x64_S16x576x64 : FVec Ideal S16x576x64 .f32) := by
  unfold lineRest3
  after_reads_simp
  rfl

/-- The first loss so far. -/
theorem lossA_3 : StableHlo.after lineRest3 V (Proc.devRef .tc main_v122) = addf (F := Ideal) (φ := .f32) (V (Proc.devRef .tc main_v91)) (loss (shapeCast S16x576x64 (V (Proc.devRef .tc main_v110)) shapeCasts_S9216x64_S16x576x64 : FVec Ideal S16x576x64 .f32) (V (Proc.devRef .tc main_v93))) := by
  unfold lineRest3
  after_reads_simp
  simp only [loss]
  rfl

/-- The second loss so far. -/
theorem lossB_3 : StableHlo.after lineRest3 V (Proc.devRef .tc main_v123) = addf (F := Ideal) (φ := .f32) (V (Proc.devRef .tc main_v92)) (loss (shapeCast S16x576x64 (V (Proc.devRef .tc main_v110)) shapeCasts_S9216x64_S16x576x64 : FVec Ideal S16x576x64 .f32) (V (Proc.devRef .tc main_v93))) := by
  unfold lineRest3
  after_reads_simp
  simp only [loss]
  rfl

end Cert.ReferenceIdeal.Line

end
-- ==== Proof.RefResult.lean ====
/-
  What the whole reference leaves in its result buffers, as functions of its arguments.
-/
module

public import proofs.«01_k».proof.Proof.RefLevel0
public import proofs.«01_k».proof.Proof.RefLevel1
public import proofs.«01_k».proof.Proof.RefLevel2
public import proofs.«01_k».proof.Proof.RefLevel3
public import Idealize.ShloMosaic.Lib.Pipeline.Frame
public import Idealize.ShloMosaic.Lib.StableHlo.RunHlo

@[expose] public section

set_option maxRecDepth 16384

noncomputable section

namespace Cert.ReferenceIdeal.Line

open Idealize.ShloMosaic Idealize.ShloMosaic.TcCoe Idealize.SL.Sem Cert.ReferenceIdeal Facts₀ Facts

variable (V : Valuation τ sig (Elt Ideal))

/-- Before the first level the sum of the codes is zero. -/
theorem head_total : StableHlo.after lineHead V (Proc.devRef .tc main_v0) = (broadcastInDim S16x576x64 ![] bcast_S_S16x576x64 (constant (F := Ideal) S_ .f32 0x00000000#32) : FVec Ideal S16x576x64 .f32) := by
  unfold lineHead
  after_reads_simp

/-- Before the first level the rows are the flattened input. -/
theorem head_flat : StableHlo.after lineHead V (Proc.devRef .tc main_v1) = flat (V (Proc.devRef .tc main_arg0)) := by
  unfold lineHead
  after_reads_simp
  rfl

/-- The quantized array, from the input and the sum of the codes. -/
theorem tail_quant : StableHlo.after lineTail V (Proc.devRef .tc main_v126) = addf (F := Ideal) (φ := .f32) (V (Proc.devRef .tc main_arg0)) (subf (F := Ideal) (φ := .f32) (V (Proc.devRef .tc main_v121)) (V (Proc.devRef .tc main_arg0))) := by
  unfold lineTail
  after_reads_simp

/-- The first loss, from the sum over the levels. -/
theorem tail_lossA : StableHlo.after lineTail V (Proc.devRef .tc main_v127) = Host.divf (F := Ideal) (φ := .f32) (V (Proc.devRef .tc main_v122)) (constant S_ .f32 0x40800000#32) := by
  unfold lineTail
  after_reads_simp

/-- The second loss, from the sum over the levels. -/
theorem tail_lossB : StableHlo.after lineTail V (Proc.devRef .tc main_v128) = Host.divf (F := Ideal) (φ := .f32) (V (Proc.devRef .tc main_v123)) (constant S_ .f32 0x40800000#32) := by
  unfold lineTail
  after_reads_simp

/-- The four index arrays, one after the other. -/
def stack (a b c d : IVec S16x576 32) : IVec S4x16x576 32 :=
  concatenate S4x16x576 0 [⟨S1x16x576, (broadcastInDim S1x16x576 ![1, 2] bcast_S16x576_S1x16x576_1_2 a : IVec S1x16x576 32)⟩, ⟨S1x16x576, (broadcastInDim S1x16x576 ![1, 2] bcast_S16x576_S1x16x576_1_2 b : IVec S1x16x576 32)⟩, ⟨S1x16x576, (broadcastInDim S1x16x576 ![1, 2] bcast_S16x576_S1x16x576_1_2 c : IVec S1x16x576 32)⟩, ⟨S1x16x576, (broadcastInDim S1x16x576 ![1, 2] bcast_S16x576_S1x16x576_1_2 d : IVec S1x16x576 32)⟩] concatenates_S1x16x576_S1x16x576_S1x16x576_S1x16x576_S4x16x576_d0

/-- The index array, from those of the levels. -/
theorem tail_index : StableHlo.after lineTail V (Proc.devRef .tc main_v133) = stack (V (Proc.devRef .tc main_v27)) (V (Proc.devRef .tc main_v58)) (V (Proc.devRef .tc main_v89)) (V (Proc.devRef .tc main_v120)) := by
  unfold lineTail
  after_reads_simp
  rfl

/-- What is left of the input `X` after one, two and three levels with the tables `A`, `B`, `C`. -/
def rest1 (X : FVec Ideal S16x576x64 .f32) (A : FVec Ideal S1024x64 .f32) : FVec Ideal S16x576x64 .f32 :=
  subf X (quant (flat X) A)

/-- The same after two levels. -/
def rest2 (X : FVec Ideal S16x576x64 .f32) (A B : FVec Ideal S1024x64 .f32) : FVec Ideal S16x576x64 .f32 :=
  rest1 (rest1 X A) B

/-- The same after three levels. -/
def rest3 (X : FVec Ideal S16x576x64 .f32) (A B C : FVec Ideal S1024x64 .f32) : FVec Ideal S16x576x64 .f32 :=
  rest1 (rest2 X A B) C

/-- The three results of the reference as functions of its five arguments. -/
def quantOut (X : FVec Ideal S16x576x64 .f32) (A B C D : FVec Ideal S1024x64 .f32) : FVec Ideal S16x576x64 .f32 :=
  addf X (subf (addf (addf (addf (addf (broadcastInDim S16x576x64 ![] bcast_S_S16x576x64 (constant S_ .f32 0x00000000#32))
    (quant (flat X) A)) (quant (flat (rest1 X A)) B)) (quant (flat (rest2 X A B)) C)) (quant (flat (rest3 X A B C)) D)) X)

/-- Both losses. -/
def lossOut (X : FVec Ideal S16x576x64 .f32) (A B C D : FVec Ideal S1024x64 .f32) : FVec Ideal S_ .f32 :=
  Host.divf (addf (addf (addf (addf (constant S_ .f32 0x00000000#32) (loss (quant (flat X) A) X))
    (loss (quant (flat (rest1 X A)) B) (rest1 X A))) (loss (quant (flat (rest2 X A B)) C) (rest2 X A B)))
    (loss (quant (flat (rest3 X A B C)) D) (rest3 X A B C))) (constant S_ .f32 0x40800000#32)

/-- The indices. -/
def indexOut (X : FVec Ideal S16x576x64 .f32) (A B C D : FVec Ideal S1024x64 .f32) : IVec S4x16x576 32 :=
  stack (grid (index (flat X) A)) (grid (index (flat (rest1 X A)) B)) (grid (index (flat (rest2 X A B)) C))
    (grid (index (flat (rest3 X A B C)) D))

/-- All operations of the reference. -/
def line : List (HloOp τ sig (Elt Ideal)) :=
  lineHead ++ (lineSearch0 ++ (lineTake0 ++ (lineRest0 ++ (lineSearch1 ++ (lineTake1 ++ (lineRest1 ++ (lineSearch2 ++ (lineTake2 ++
    (lineRest2 ++ (lineSearch3 ++ (lineTake3 ++ (lineRest3 ++ lineTail))))))))))))

/-- What the whole reference leaves as its first result. -/
theorem line_quant : StableHlo.after line V (Proc.devRef .tc main_v126) =
    quantOut (V (Proc.devRef .tc main_arg0)) (V (Proc.devRef .tc main_arg1)) (V (Proc.devRef .tc main_arg2)) (V (Proc.devRef .tc main_arg3)) (V (Proc.devRef .tc main_arg4)) := by
  unfold line
  simp only [StableHlo.after_append]
  rw [
    tail_quant, kept lineRest3 main_arg0, total_3, kept lineTake3 main_arg0, kept lineTake3 main_v90, take_3,
    kept lineSearch3 main_arg0, kept lineSearch3 main_v90, kept lineSearch3 main_arg4, search_3,
    kept lineRest2 main_arg0, total_2, kept lineRest2 main_arg4, flat_2, kept lineTake2 main_arg0,
    kept lineTake2 main_v59, take_2, kept lineTake2 main_arg4, kept lineTake2 main_v62, kept lineSearch2 main_arg0,
    kept lineSearch2 main_v59, kept lineSearch2 main_arg3, search_2, kept lineSearch2 main_arg4,
    kept lineSearch2 main_v62, kept lineRest1 main_arg0, total_1, kept lineRest1 main_arg3, flat_1,
    kept lineRest1 main_arg4, rest_1, kept lineTake1 main_arg0, kept lineTake1 main_v28, take_1,
    kept lineTake1 main_arg3, kept lineTake1 main_v31, kept lineTake1 main_arg4, kept lineSearch1 main_arg0,
    kept lineSearch1 main_v28, kept lineSearch1 main_arg2, search_1, kept lineSearch1 main_arg3,
    kept lineSearch1 main_v31, kept lineSearch1 main_arg4, kept lineRest0 main_arg0, total_0,
    kept lineRest0 main_arg2, flat_0, kept lineRest0 main_arg3, rest_0, kept lineRest0 main_arg4,
    kept lineTake0 main_arg0, kept lineTake0 main_v0, take_0, kept lineTake0 main_arg2, kept lineTake0 main_arg3,
    kept lineTake0 main_arg4, kept lineSearch0 main_arg0, kept lineSearch0 main_v0, kept lineSearch0 main_arg1,
    search_0, kept lineSearch0 main_arg2, kept lineSearch0 main_arg3, kept lineSearch0 main_arg4,
    kept lineHead main_arg0, head_total, kept lineHead main_arg1, head_flat, kept lineHead main_arg2,
    kept lineHead main_arg3, kept lineHead main_arg4]
  simp only [quantOut, rest3, rest2, rest1, quant]

/-- What the whole reference leaves as its second result. -/
theorem line_lossA : StableHlo.after line V (Proc.devRef .tc main_v127) =
    lossOut (V (Proc.devRef .tc main_arg0)) (V (Proc.devRef .tc main_arg1)) (V (Proc.devRef .tc main_arg2)) (V (Proc.devRef .tc main_arg3)) (V (Proc.devRef .tc main_arg4)) := by
  unfold line
  simp only [StableHlo.after_append]
  rw [
    tail_lossA, lossA_3, kept lineTake3 main_v91, take_3, kept lineTake3 main_v93, kept lineSearch3 main_v91,
    kept lineSearch3 main_arg4, search_3, kept lineSearch3 main_v93, lossA_2, kept lineRest2 main_arg4, flat_2,
    rest_2, kept lineTake2 main_v60, take_2, kept lineTake2 main_v62, kept lineTake2 main_arg4,
    kept lineSearch2 main_v60, kept lineSearch2 main_arg3, search_2, kept lineSearch2 main_v62,
    kept lineSearch2 main_arg4, lossA_1, kept lineRest1 main_arg3, flat_1, rest_1, kept lineRest1 main_arg4,
    kept lineTake1 main_v29, take_1, kept lineTake1 main_v31, kept lineTake1 main_arg3, kept lineTake1 main_arg4,
    kept lineSearch1 main_v29, kept lineSearch1 main_arg2, search_1, kept lineSearch1 main_v31,
    kept lineSearch1 main_arg3, kept lineSearch1 main_arg4, lossA_0, kept lineRest0 main_arg2, flat_0, rest_0,
    kept lineRest0 main_arg3, kept lineRest0 main_arg4, take_0, kept lineTake0 main_arg0, kept lineTake0 main_arg2,
    kept lineTake0 main_arg3, kept lineTake0 main_arg4, kept lineSearch0 main_arg1, search_0,
    kept lineSearch0 main_arg0, kept lineSearch0 main_arg2, kept lineSearch0 main_arg3, kept lineSearch0 main_arg4,
    kept lineHead main_arg1, head_flat, kept lineHead main_arg0, kept lineHead main_arg2, kept lineHead main_arg3,
    kept lineHead main_arg4]
  simp only [lossOut, rest3, rest2, rest1, quant]

/-- What the whole reference leaves as its third result. -/
theorem line_lossB : StableHlo.after line V (Proc.devRef .tc main_v128) =
    lossOut (V (Proc.devRef .tc main_arg0)) (V (Proc.devRef .tc main_arg1)) (V (Proc.devRef .tc main_arg2)) (V (Proc.devRef .tc main_arg3)) (V (Proc.devRef .tc main_arg4)) := by
  unfold line
  simp only [StableHlo.after_append]
  rw [
    tail_lossB, lossB_3, kept lineTake3 main_v92, take_3, kept lineTake3 main_v93, kept lineSearch3 main_v92,
    kept lineSearch3 main_arg4, search_3, kept lineSearch3 main_v93, lossB_2, kept lineRest2 main_arg4, flat_2,
    rest_2, kept lineTake2 main_v61, take_2, kept lineTake2 main_v62, kept lineTake2 main_arg4,
    kept lineSearch2 main_v61, kept lineSearch2 main_arg3, search_2, kept lineSearch2 main_v62,
    kept lineSearch2 main_arg4, lossB_1, kept lineRest1 main_arg3, flat_1, rest_1, kept lineRest1 main_arg4,
    kept lineTake1 main_v30, take_1, kept lineTake1 main_v31, kept lineTake1 main_arg3, kept lineTake1 main_arg4,
    kept lineSearch1 main_v30, kept lineSearch1 main_arg2, search_1, kept lineSearch1 main_v31,
    kept lineSearch1 main_arg3, kept lineSearch1 main_arg4, lossB_0, kept lineRest0 main_arg2, flat_0, rest_0,
    kept lineRest0 main_arg3, kept lineRest0 main_arg4, take_0, kept lineTake0 main_arg0, kept lineTake0 main_arg2,
    kept lineTake0 main_arg3, kept lineTake0 main_arg4, kept lineSearch0 main_arg1, search_0,
    kept lineSearch0 main_arg0, kept lineSearch0 main_arg2, kept lineSearch0 main_arg3, kept lineSearch0 main_arg4,
    kept lineHead main_arg1, head_flat, kept lineHead main_arg0, kept lineHead main_arg2, kept lineHead main_arg3,
    kept lineHead main_arg4]
  simp only [lossOut, rest3, rest2, rest1, quant]

/-- What the whole reference leaves as its fourth result. -/
theorem line_index : StableHlo.after line V (Proc.devRef .tc main_v133) =
    indexOut (V (Proc.devRef .tc main_arg0)) (V (Proc.devRef .tc main_arg1)) (V (Proc.devRef .tc main_arg2)) (V (Proc.devRef .tc main_arg3)) (V (Proc.devRef .tc main_arg4)) := by
  unfold line
  simp only [StableHlo.after_append]
  rw [
    tail_index, kept lineRest3 main_v27, kept lineRest3 main_v58, kept lineRest3 main_v89, grid_3,
    kept lineTake3 main_v27, kept lineTake3 main_v58, kept lineTake3 main_v89, kept lineTake3 main_v109,
    kept lineSearch3 main_v27, kept lineSearch3 main_v58, kept lineSearch3 main_v89, search_3,
    kept lineRest2 main_v27, kept lineRest2 main_v58, grid_2, flat_2, kept lineRest2 main_arg4,
    kept lineTake2 main_v27, kept lineTake2 main_v58, kept lineTake2 main_v78, kept lineTake2 main_v62, take_2,
    kept lineTake2 main_arg4, kept lineSearch2 main_v27, kept lineSearch2 main_v58, search_2,
    kept lineSearch2 main_v62, kept lineSearch2 main_arg3, kept lineSearch2 main_arg4, kept lineRest1 main_v27,
    grid_1, flat_1, kept lineRest1 main_arg3, rest_1, kept lineRest1 main_arg4, kept lineTake1 main_v27,
    kept lineTake1 main_v47, kept lineTake1 main_v31, take_1, kept lineTake1 main_arg3, kept lineTake1 main_arg4,
    kept lineSearch1 main_v27, search_1, kept lineSearch1 main_v31, kept lineSearch1 main_arg2,
    kept lineSearch1 main_arg3, kept lineSearch1 main_arg4, grid_0, flat_0, kept lineRest0 main_arg2, rest_0,
    kept lineRest0 main_arg3, kept lineRest0 main_arg4, kept lineTake0 main_v16, kept lineTake0 main_arg0, take_0,
    kept lineTake0 main_arg2, kept lineTake0 main_arg3, kept lineTake0 main_arg4, search_0,
    kept lineSearch0 main_arg0, kept lineSearch0 main_arg1, kept lineSearch0 main_arg2, kept lineSearch0 main_arg3,
    kept lineSearch0 main_arg4, head_flat, kept lineHead main_arg1, kept lineHead main_arg0, kept lineHead main_arg2,
    kept lineHead main_arg3, kept lineHead main_arg4]
  simp only [indexOut, rest3, rest2, rest1, quant]

end Cert.ReferenceIdeal.Line

end
-- ==== Proof.RefValue.lean ====
/-
  The results of the reference in terms of its rows.
-/
module

public import proofs.«01_k».proof.Proof.RefResult
public import Idealize.ShloMosaic.Lib.Pipeline.ValueKit.Point

@[expose] public section

set_option maxRecDepth 16384

noncomputable section

namespace Cert.ReferenceIdeal.Line

open Idealize.ShloMosaic Idealize.ShloMosaic.TcCoe Idealize.SL.Sem Cert.ReferenceIdeal Facts₀ Facts Cert.Nearest Cert.Spec

/-- The row of the flattened input that holds entry `(a, b)`. -/
def rowNo (a : Fin 16) (b : Fin 576) : Fin 9216 := ⟨a * 576 + b, by omega⟩

/-- The rows looked up are the picked codes. -/
theorem take_row (f : FVec Ideal S9216x64 .f32) (E : FVec Ideal S1024x64 .f32) (r : Fin 9216) (k : Fin 64) :
    take E (index f E) (ix2 r k) = pick (rowOf f r) (rowOf E) k :=
  take_apply E _ r _ (firstOf_dist f E r) k

/-- An element of the codes of one level. -/
theorem quant_apply (f : FVec Ideal S9216x64 .f32) (E : FVec Ideal S1024x64 .f32) (a : Fin 16) (b : Fin 576) (k : Fin 64) :
    quant f E (ix3 a b k) = pick (rowOf f (rowNo a b)) (rowOf E) k := by
  rw [← take_row]
  unfold quant
  pointwise
  rfl

/-- An element of the flattened input. -/
theorem flat_apply (X : FVec Ideal S16x576x64 .f32) (a : Fin 16) (b : Fin 576) (k : Fin 64) :
    flat X (ix2 (rowNo a b) k) = X (ix3 a b k) := by
  unfold flat rowNo
  pointwise
  blk_ext []

/-- What is left after one level, row by row. -/
theorem rest_row (X : FVec Ideal S16x576x64 .f32) (E : FVec Ideal S1024x64 .f32) (a : Fin 16) (b : Fin 576) :
    rowOf (flat (rest1 X E)) (rowNo a b) = left (rowOf (flat X) (rowNo a b)) (rowOf E) := by
  funext k
  have h : rowOf (flat X) (rowNo a b) k = X (ix3 a b k) := flat_apply X a b k
  have h' : rowOf (flat (rest1 X E)) (rowNo a b) k = rest1 X E (ix3 a b k) := flat_apply (rest1 X E) a b k
  unfold left
  rw [h, h']
  exact congrArg (X (ix3 a b k) - ·) (quant_apply (flat X) E a b k)

/-- An element of the quantized array, by its row. -/
theorem quantOut_apply (X : FVec Ideal S16x576x64 .f32) (A B C D : FVec Ideal S1024x64 .f32) (a : Fin 16) (b : Fin 576) (k : Fin 64) :
    quantOut X A B C D (ix3 a b k) = out (rowOf (flat X) (rowNo a b)) (rowOf A) (rowOf B) (rowOf C) (rowOf D) k := by
  unfold quantOut out
  pointwise
  simp only [quant_apply, rest3, rest2, rest_row]
  have h : rowOf (flat X) (rowNo a b) k = X (ix3 a b k) := flat_apply X a b k
  rw [h]

/-- An element of the indices, by its row. -/
theorem indexOut_apply (X : FVec Ideal S16x576x64 .f32) (A B C D : FVec Ideal S1024x64 .f32) (l : Fin 4) (a : Fin 16) (b : Fin 576) :
    indexOut X A B C D (ix3 l a b)
      = BitVec.ofNat 32 (code (rowOf (flat X) (rowNo a b)) (rowOf A) (rowOf B) (rowOf C) (rowOf D) l).val := by
  have g : ∀ (Y : FVec Ideal S16x576x64 .f32) (E : FVec Ideal S1024x64 .f32),
      grid (index (flat Y) E) (ix2 a b) = BitVec.ofNat 32 (best (rowOf (flat Y) (rowNo a b)) (rowOf E)).val := fun Y E => by
    rw [← firstOf_dist]
    unfold grid
    pointwise
    rfl
  unfold indexOut stack code
  fin_cases l <;> pointwise <;> rw [g] <;> simp only [rest3, rest2, rest_row] <;> rfl

/-- The sum of squares of one level over all entries. -/
theorem loss_apply (X : FVec Ideal S16x576x64 .f32) (E : FVec Ideal S1024x64 .f32) (i : S_.Idx) :
    loss (quant (flat X) E) X i
      = Ideal.div (∑ a : Fin 16, ∑ b : Fin 576, err (rowOf (flat X) (rowNo a b)) (rowOf E)) (Ideal.ofBits .f32 0x49100000#32) := by
  unfold loss err
  pointwise
  refine congrArg (Ideal.div · _) (Finset.sum_congr rfl fun a _ => Finset.sum_congr rfl fun b _ => Finset.sum_congr rfl fun k _ => ?_)
  have h : rowOf (flat X) (rowNo a b) k = X (ix3 a b k) := flat_apply X a b k
  rw [quant_apply, h, sq_sub_comm]

/-- The loss is the sum of all squared errors times one constant. -/
theorem lossOut_apply (X : FVec Ideal S16x576x64 .f32) (A B C D : FVec Ideal S1024x64 .f32) (i : S_.Idx) :
    lossOut X A B C D i
      = (∑ a : Fin 16, ∑ b : Fin 576, errs (rowOf (flat X) (rowNo a b)) (rowOf A) (rowOf B) (rowOf C) (rowOf D))
          * ((1 / 2359296 : ℝ) : EReal) := by
  have z : ∀ (Y : FVec Ideal S16x576x64 .f32) (E : FVec Ideal S1024x64 .f32),
      0 ≤ ∑ a : Fin 16, ∑ b : Fin 576, err (rowOf (flat Y) (rowNo a b)) (rowOf E) := fun Y E =>
    Finset.sum_nonneg fun _ _ => Finset.sum_nonneg fun _ _ => err_nonneg _ _
  have m := mean_of_means (z X A) (z (rest1 X A) B) (z (rest2 X A B) C) (z (rest3 X A B C) D)
  rw [zero_add] at m
  refine Eq.trans ?_ (m.trans (congrArg (· * ((1 / 2359296 : ℝ) : EReal)) ?_))
  · unfold lossOut
    pointwise
    simp only [loss_apply]
  · simp only [rest3, rest2, rest_row, errs, Finset.sum_add_distrib]

end Cert.ReferenceIdeal.Line

end
-- ==== Proof.KResult.lean ====
/-
  The results of the kernel's program over its arguments.
-/
module

public import proofs.«01_k».proof.Proof.KArray
public import proofs.«01_k».proof.Proof.RefValue

@[expose] public section

set_option maxRecDepth 16384

noncomputable section

namespace Cert.KernelIdeal.Level

open Idealize.ShloMosaic Idealize.ShloMosaic.TcCoe Idealize.SL.Sem Cert.KernelIdeal Cert.KernelIdeal.Gen
open Idealize.ShloMosaic.Pipeline (Dat)
open Cert.Nearest Cert.Spec

section Host
variable (W : Valuation τ sig (Elt Ideal))

/-- The lines after the kernel, read at the three results. -/
theorem host_quant : StableHlo.after [hostOps1].flatten W (Proc.devRef .tc main_v3)
    = (shapeCast S16x576x64 (W (Proc.devRef .tc main_v2_0) : FVec Ideal S9216x64 .f32) Gen.facts.shapeCasts_S9216x64_S16x576x64 : FVec Ideal S16x576x64 .f32) := by
  simp only [hostOps1, List.flatten_cons, List.flatten_nil, List.append_nil]
  after_reads_simp
  rfl

/-- The loss result is the one element of the third output. -/
theorem host_loss : StableHlo.after [hostOps1].flatten W (Proc.devRef .tc main_v4)
    = (shapeCast S_ (W (Proc.devRef .tc main_v2_2) : FVec Ideal S1x1 .f32) Gen.facts.shapeCasts_S1x1_S_ : FVec Ideal S_ .f32) := by
  simp only [hostOps1, List.flatten_cons, List.flatten_nil, List.append_nil]
  after_reads_simp
  rfl

/-- The index result is the second output, reshaped. -/
theorem host_index : StableHlo.after [hostOps1].flatten W (Proc.devRef .tc main_v5)
    = (shapeCast S4x16x576 (W (Proc.devRef .tc main_v2_1) : IVec S4x9216 32) Gen.facts.shapeCasts_S4x9216_S4x16x576 : IVec S4x16x576 32) := by
  simp only [hostOps1, List.flatten_cons, List.flatten_nil, List.append_nil]
  after_reads_simp
  rfl

end Host

variable (m : (ℓ : Loc nD τ sig) → Buf (Elt Ideal) ℓ) (c : Dev nD)

/-- The first result of the kernel. -/
theorem result_quant : Pipeline.afterTail₀ cfgs (dats m) 0 (V0 m) [hostOps1] c main_v3
    = (shapeCast S16x576x64 (allQ m c) Gen.facts.shapeCasts_S9216x64_S16x576x64 : FVec Ideal S16x576x64 .f32) := by
  unfold Pipeline.afterTail₀
  rw [host_quant]
  congr 1
  exact (Pipeline.withArrays_arr spec0 launch0.win.arr_inj c (V0 m c) _ 2).trans (quant_array m c)

/-- The fourth result of the kernel. -/
theorem result_index : Pipeline.afterTail₀ cfgs (dats m) 0 (V0 m) [hostOps1] c main_v5
    = (shapeCast S4x16x576 (allI m c) Gen.facts.shapeCasts_S4x9216_S4x16x576 : IVec S4x16x576 32) := by
  unfold Pipeline.afterTail₀
  rw [host_index]
  congr 1
  exact (Pipeline.withArrays_arr spec0 launch0.win.arr_inj c (V0 m c) _ 3).trans (index_array m c)

/-- The second and third result of the kernel. -/
theorem result_loss : Pipeline.afterTail₀ cfgs (dats m) 0 (V0 m) [hostOps1] c main_v4
    = (fun _ => (∑ s : Fin cfg0.N, blockErr m c s) * ((1 / 2359296 : ℝ) : EReal) : FVec Ideal S_ .f32) := by
  unfold Pipeline.afterTail₀
  rw [host_loss]
  have h := (Pipeline.withArrays_arr spec0 launch0.win.arr_inj c (V0 m c) (fun w => (dats m 0 c).arrAt w (cfgs 0).N) 4).trans (total_array m c)
  funext i
  exact congrFun h _

/-- A table of the stack, and the four tables of the arguments. -/
theorem tab0_apply (X : FVec Ideal S4096x64 .f32) (j : Fin 1024) (k : Fin 64) : tab0 X (ix2 j k) = X (ix2 ⟨0 + j.val, by omega⟩ k) := by
  unfold tab0
  exact congrArg X (funext fun a => Fin.ext (by
    fin_cases a; exacts [(by show 0 + 1 * j.val = 0 + j.val; omega), (by show 0 + 1 * k.val = k.val; omega)]))

/-- The first table of the call is the first argument table. -/
theorem table0 : row (tab0 (codesIn m c)) = row (m ((c : Thread nD τ).loc main_arg1) : FVec Ideal S1024x64 .f32) := by
  funext j k
  show tab0 (codesIn m c) (ix2 j k) = _
  rw [tab0_apply, codesIn_eq]
  pointwise
  rfl

/-- An element of the second table of the call. -/
theorem tab1_apply (X : FVec Ideal S4096x64 .f32) (j : Fin 1024) (k : Fin 64) : tab1 X (ix2 j k) = X (ix2 ⟨1024 + j.val, by omega⟩ k) := by
  unfold tab1
  exact congrArg X (funext fun a => Fin.ext (by
    fin_cases a; exacts [(by show 1024 + 1 * j.val = 1024 + j.val; omega), (by show 0 + 1 * k.val = k.val; omega)]))

/-- The second table, likewise. -/
theorem table1 : row (tab1 (codesIn m c)) = row (m ((c : Thread nD τ).loc main_arg2) : FVec Ideal S1024x64 .f32) := by
  funext j k
  show tab1 (codesIn m c) (ix2 j k) = _
  rw [tab1_apply, codesIn_eq]
  pointwise
  rfl

/-- An element of the third table of the call. -/
theorem tab2_apply (X : FVec Ideal S4096x64 .f32) (j : Fin 1024) (k : Fin 64) : tab2 X (ix2 j k) = X (ix2 ⟨2048 + j.val, by omega⟩ k) := by
  unfold tab2
  exact congrArg X (funext fun a => Fin.ext (by
    fin_cases a; exacts [(by show 2048 + 1 * j.val = 2048 + j.val; omega), (by show 0 + 1 * k.val = k.val; omega)]))

/-- The third table, likewise. -/
theorem table2 : row (tab2 (codesIn m c)) = row (m ((c : Thread nD τ).loc main_arg3) : FVec Ideal S1024x64 .f32) := by
  funext j k
  show tab2 (codesIn m c) (ix2 j k) = _
  rw [tab2_apply, codesIn_eq]
  pointwise
  rw [dif_neg (by omega), dif_neg (by omega), dif_pos (by omega)]
  unfold row
  blk_ext

/-- An element of the fourth table of the call. -/
theorem tab3_apply (X : FVec Ideal S4096x64 .f32) (j : Fin 1024) (k : Fin 64) : tab3 X (ix2 j k) = X (ix2 ⟨3072 + j.val, by omega⟩ k) := by
  unfold tab3
  exact congrArg X (funext fun a => Fin.ext (by
    fin_cases a; exacts [(by show 3072 + 1 * j.val = 3072 + j.val; omega), (by show 0 + 1 * k.val = k.val; omega)]))

/-- The fourth table, likewise. -/
theorem table3 : row (tab3 (codesIn m c)) = row (m ((c : Thread nD τ).loc main_arg4) : FVec Ideal S1024x64 .f32) := by
  funext j k
  show tab3 (codesIn m c) (ix2 j k) = _
  rw [tab3_apply, codesIn_eq]
  pointwise
  rw [dif_neg (by omega), dif_neg (by omega), dif_neg (by omega)]
  unfold row
  blk_ext

end Cert.KernelIdeal.Level

end
-- ==== Proof.Agree.lean ====
/-
  The results of the two programs agree on equal arguments.
-/
module

public import proofs.«01_k».proof.Proof.KResult

@[expose] public section

set_option maxRecDepth 16384

noncomputable section

namespace Cert.KernelIdeal.Level

open Idealize.ShloMosaic Idealize.ShloMosaic.TcCoe Idealize.SL.Sem Cert.KernelIdeal Cert.KernelIdeal.Gen
open Cert.Nearest Cert.Spec
open Cert.ReferenceIdeal.Line (rowOf flat rowNo quantOut indexOut lossOut quantOut_apply indexOut_apply lossOut_apply)

/-- A sum over all rows, block by block. -/
theorem sum_blocks (p q N : ℕ) (hN : N = p * q) (g : Fin N → EReal) (e : Fin p → Fin q → Fin N)
    (he : ∀ a b, (e a b).val = a.val * q + b.val) : ∑ a, ∑ b, g (e a b) = ∑ n, g n := by
  subst hN
  rw [← Finset.sum_product' Finset.univ Finset.univ fun a b => g (e a b)]
  refine Fintype.sum_equiv finProdFinEquiv _ _ fun x => ?_
  refine congrArg g (Fin.ext ?_)
  rw [he]
  simp only [finProdFinEquiv_apply_val]
  rw [Nat.mul_comm, Nat.add_comm]

variable (m : (ℓ : Loc nD τ sig) → Buf (Elt Ideal) ℓ) (c : Dev nD)

/-- The arguments. -/
def argX : FVec Ideal S16x576x64 .f32 := m ((c : Thread nD τ).loc main_arg0)
/-- The table of the first level. -/
def argA : FVec Ideal S1024x64 .f32 := m ((c : Thread nD τ).loc main_arg1)
/-- The table of the second level. -/
def argB : FVec Ideal S1024x64 .f32 := m ((c : Thread nD τ).loc main_arg2)
/-- The table of the third level. -/
def argC : FVec Ideal S1024x64 .f32 := m ((c : Thread nD τ).loc main_arg3)
/-- The table of the fourth level. -/
def argD : FVec Ideal S1024x64 .f32 := m ((c : Thread nD τ).loc main_arg4)

/-- A row of the array that the call receives is a row of the flattened input. -/
theorem row_in (r : Fin 9216) : row (rowsIn m c) r = rowOf (flat (argX m c)) r := by
  rw [rowsIn_eq]; rfl

/-- The quantized array of the kernel is that of the reference. -/
theorem agree_quant : (shapeCast S16x576x64 (allQ m c) Gen.facts.shapeCasts_S9216x64_S16x576x64 : FVec Ideal S16x576x64 .f32)
    = quantOut (argX m c) (argA m c) (argB m c) (argC m c) (argD m c) := by
  funext i
  obtain ⟨a, b, k, rfl⟩ : ∃ (a : Fin 16) (b : Fin 576) (k : Fin 64), i = ix3 a b k := ⟨i 0, i 1, i 2, by blk_ext⟩
  refine Eq.trans ?_ (quantOut_apply (argX m c) (argA m c) (argB m c) (argC m c) (argD m c) a b k).symm
  have h : (shapeCast S16x576x64 (allQ m c) Gen.facts.shapeCasts_S9216x64_S16x576x64 : FVec Ideal S16x576x64 .f32) (ix3 a b k)
      = allQ m c (ix2 (rowNo a b) k) := by
    unfold rowNo
    pointwise
    blk_ext
  rw [h]
  show out (row (rowsIn m c) (rowNo a b)) _ _ _ _ k = _
  rw [row_in, table0, table1, table2, table3]
  rfl

/-- The indices of the kernel are those of the reference. -/
theorem agree_index : (shapeCast S4x16x576 (allI m c) Gen.facts.shapeCasts_S4x9216_S4x16x576 : IVec S4x16x576 32)
    = indexOut (argX m c) (argA m c) (argB m c) (argC m c) (argD m c) := by
  funext i
  obtain ⟨l, a, b, rfl⟩ : ∃ (l : Fin 4) (a : Fin 16) (b : Fin 576), i = ix3 l a b := ⟨i 0, i 1, i 2, by blk_ext⟩
  refine Eq.trans ?_ (indexOut_apply (argX m c) (argA m c) (argB m c) (argC m c) (argD m c) l a b).symm
  have h : (shapeCast S4x16x576 (allI m c) Gen.facts.shapeCasts_S4x9216_S4x16x576 : IVec S4x16x576 32) (ix3 l a b)
      = allI m c (ix2 l (rowNo a b)) := by
    unfold rowNo
    pointwise
    blk_ext
  rw [h]
  show BitVec.ofNat 32 (code (row (rowsIn m c) (rowNo a b)) _ _ _ _ l).val = _
  rw [row_in, table0, table1, table2, table3]
  rfl

/-- The loss of the kernel is that of the reference. -/
theorem agree_loss : (fun _ => (∑ s : Fin cfg0.N, blockErr m c s) * ((1 / 2359296 : ℝ) : EReal) : FVec Ideal S_ .f32)
    = lossOut (argX m c) (argA m c) (argB m c) (argC m c) (argD m c) := by
  funext i
  refine Eq.trans ?_ (lossOut_apply (argX m c) (argA m c) (argB m c) (argC m c) (argD m c) i).symm
  show (∑ s : Fin cfg0.N, blockErr m c s) * ((1 / 2359296 : ℝ) : EReal) = _
  congr 1
  have g : ∀ s : Fin cfg0.N, blockErr m c s = ∑ r : Fin 1024, errs (rowOf (flat (argX m c)) (nth s r))
      (rowOf (argA m c)) (rowOf (argB m c)) (rowOf (argC m c)) (rowOf (argD m c)) := fun s => by
    unfold blockErr
    rw [outS_eq, table0, table1, table2, table3]
    refine Finset.sum_congr rfl fun r _ => ?_
    rw [block_row, row_in]
    rfl
  simp only [g]
  rw [sum_blocks cfg0.N 1024 9216 (by rw [points]) (fun n => errs (rowOf (flat (argX m c)) n)
      (rowOf (argA m c)) (rowOf (argB m c)) (rowOf (argC m c)) (rowOf (argD m c))) nth fun _ _ => rfl,
    sum_blocks 16 576 9216 rfl (fun n => errs (rowOf (flat (argX m c)) n)
      (rowOf (argA m c)) (rowOf (argB m c)) (rowOf (argC m c)) (rowOf (argD m c))) rowNo fun _ _ => rfl]

end Cert.KernelIdeal.Level

end
-- ==== Proof.RefRun.lean ====
/-
  The run of the reference: what it ends holding, and that its arguments stay.
-/
module

public import proofs.«01_k».proof.Proof.RefResult
public import Idealize.ShloMosaic.Lib.Quiescent

@[expose] public section

set_option maxRecDepth 16384

noncomputable section

namespace Cert.ReferenceIdeal.Line

open Idealize.ShloMosaic Idealize.ShloMosaic.TcCoe Idealize.SL.Sem Cert.ReferenceIdeal Facts₀ Facts

/-- Every operation works on arrays of the device. -/
theorem line_bufs : line.Forall fun op => op.bufs ⊆ StableHlo.tcRefs τ sig := by
  simp [line, lineHead, lineSearch0, lineTake0, lineRest0, lineSearch1, lineTake1, lineRest1, lineSearch2, lineTake2, lineRest2,
    lineSearch3, lineTake3, lineRest3, lineTail]

/-- Every operation determines its results. -/
theorem line_fresh : ∀ op ∈ line, op.fresh = ∅ := by
  decide

/-- An argument keeps its contents over the whole line. -/
theorem line_keep (V : Valuation τ sig (Elt Ideal)) (b : Ref sig .tc)
    (hb : b ∈ [main_arg0, main_arg1, main_arg2, main_arg3, main_arg4]) :
    StableHlo.after line V (Proc.devRef .tc b) = V (Proc.devRef .tc b) :=
  have h : ∀ b ∈ [main_arg0, main_arg1, main_arg2, main_arg3, main_arg4], ∀ op ∈ line, (Proc.devRef (τ := τ) .tc b) ∉ op.writes := by
    decide
  kept line b (h b hb)

/-- Every run of the reference ends with each array holding what the line of operations leaves there. -/
theorem line_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = StableHlo.after line (StableHlo.launchContents m d) (Proc.devRef .tc b) :=
  StableHlo.run_seq (by decide) (by decide) defs main (fun _ => line) main_eq
    (fun _ => line_bufs) m ρ (fun _ => line_fresh)

/-- The reference program keeps its arguments and ends with every counter zero. -/
theorem line_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, ∀ b ∈ [main_arg0, main_arg1, main_arg2, main_arg3, main_arg4],
        r.2.mem ((c.tc : Thread nD τ).loc b) = m ((c.tc : Thread nD τ).loc b)) ∧ r.2.sem = fun _ => 0 :=
  (θ_run defs _ _).mono (fun r h => ⟨fun c b hb => (h c b).trans (line_keep _ b hb), sem_eq_zero_of_no_sems rfl r.2⟩)
    (line_run m ρ)

end Cert.ReferenceIdeal.Line

end
-- ==== Proof.lean ====
/- The certificate of a four-level residual vector quantizer. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import proofs.«01_k».proof.Proof.RefRun
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.KernelIdeal.Level

/-- The reference runs, keeps its arguments and leaves every counter zero. -/
theorem reference_frame : Cert.quiescent_ReferenceIdeal := by
  intro m ρ _
  refine (θ_run Cert.ReferenceIdeal.defs _ _).mono (fun r h => ⟨fun c => ?_, h.2⟩) (Cert.ReferenceIdeal.Line.line_frame m ρ)
  have k := h.1 c
  exact ⟨k _ (by simp), k _ (by simp), k _ (by simp), k _ (by simp), k _ (by simp)⟩

/-- On equal arguments the kernel and the reference end with equal results. -/
theorem algebraic : Cert.algebraic_KernelIdeal_ReferenceIdeal := by
  pair_intro
  · run_from Cert.KernelIdeal.Gen.run_main m g
    all_goals first
      | exact Cert.KernelIdeal.Gen.W_main_arg0 m _ c
      | exact Cert.KernelIdeal.Gen.W_main_arg1 m _ c
      | exact Cert.KernelIdeal.Gen.W_main_arg2 m _ c
      | exact Cert.KernelIdeal.Gen.W_main_arg3 m _ c
      | exact Cert.KernelIdeal.Gen.W_main_arg4 m _ c
  · refine (θ_run Cert.ReferenceIdeal.defs _ _).mono (fun r h c => ?_) (Cert.ReferenceIdeal.Line.line_run m' g')
    have keep : ∀ b ∈ [Cert.ReferenceIdeal.main_arg0, Cert.ReferenceIdeal.main_arg1, Cert.ReferenceIdeal.main_arg2,
        Cert.ReferenceIdeal.main_arg3, Cert.ReferenceIdeal.main_arg4],
        r.2.mem ((c.tc : Thread Cert.ReferenceIdeal.nD Cert.ReferenceIdeal.τ).loc b) = m' ((c.tc : Thread Cert.ReferenceIdeal.nD Cert.ReferenceIdeal.τ).loc b) :=
      fun b hb => (h c b).trans (Cert.ReferenceIdeal.Line.line_keep _ b hb)
    obtain ⟨e0, e1, e2, e3, e4⟩ := hagree c
    have q : ∀ {α : Type} (f : FVec Ideal Cert.KernelIdeal.S16x576x64 .f32 → FVec Ideal Cert.KernelIdeal.S1024x64 .f32 →
        FVec Ideal Cert.KernelIdeal.S1024x64 .f32 → FVec Ideal Cert.KernelIdeal.S1024x64 .f32 → FVec Ideal Cert.KernelIdeal.S1024x64 .f32 → α),
        f (StableHlo.launchContents m' c (Proc.devRef .tc Cert.ReferenceIdeal.main_arg0))
          (StableHlo.launchContents m' c (Proc.devRef .tc Cert.ReferenceIdeal.main_arg1))
          (StableHlo.launchContents m' c (Proc.devRef .tc Cert.ReferenceIdeal.main_arg2))
          (StableHlo.launchContents m' c (Proc.devRef .tc Cert.ReferenceIdeal.main_arg3))
          (StableHlo.launchContents m' c (Proc.devRef .tc Cert.ReferenceIdeal.main_arg4))
        = f (argX m c) (argA m c) (argB m c) (argC m c) (argD m c) := fun f => by
      have a0 : (StableHlo.launchContents m' c (Proc.devRef .tc Cert.ReferenceIdeal.main_arg0) : FVec Ideal Cert.KernelIdeal.S16x576x64 .f32) = argX m c := e0
      have a1 : (StableHlo.launchContents m' c (Proc.devRef .tc Cert.ReferenceIdeal.main_arg1) : FVec Ideal Cert.KernelIdeal.S1024x64 .f32) = argA m c := e1
      have a2 : (StableHlo.launchContents m' c (Proc.devRef .tc Cert.ReferenceIdeal.main_arg2) : FVec Ideal Cert.KernelIdeal.S1024x64 .f32) = argB m c := e2
      have a3 : (StableHlo.launchContents m' c (Proc.devRef .tc Cert.ReferenceIdeal.main_arg3) : FVec Ideal Cert.KernelIdeal.S1024x64 .f32) = argC m c := e3
      have a4 : (StableHlo.launchContents m' c (Proc.devRef .tc Cert.ReferenceIdeal.main_arg4) : FVec Ideal Cert.KernelIdeal.S1024x64 .f32) = argD m c := e4
      rw [a0, a1, a2, a3, a4]
    refine ⟨?_, ?_, ?_, ?_, keep _ (by simp), keep _ (by simp), keep _ (by simp), keep _ (by simp), keep _ (by simp)⟩
    · exact (h c _).trans ((Cert.ReferenceIdeal.Line.line_quant _).trans ((q Cert.ReferenceIdeal.Line.quantOut).trans
        ((agree_quant m c).symm.trans (result_quant m c).symm)))
    · exact (h c _).trans ((Cert.ReferenceIdeal.Line.line_lossA _).trans ((q Cert.ReferenceIdeal.Line.lossOut).trans
        ((agree_loss m c).symm.trans (result_loss m c).symm)))
    · exact (h c _).trans ((Cert.ReferenceIdeal.Line.line_lossB _).trans ((q Cert.ReferenceIdeal.Line.lossOut).trans
        ((agree_loss m c).symm.trans (result_loss m c).symm)))
    · exact (h c _).trans ((Cert.ReferenceIdeal.Line.line_index _).trans ((q Cert.ReferenceIdeal.Line.indexOut).trans
        ((agree_index m c).symm.trans (result_index m c).symm)))

/-- All the claims. -/
theorem claim : Cert.Claim := by
  exact ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame,
    IdealRules.named_const.statement Cert.KernelIdeal.κ "loss_scale" .f32 0x34E38E39#32 ((1 / 2359296 : ℝ) : EReal) rfl, algebraic⟩

end Cert.Proof

end
